-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S32 : Shape := ⟨1, ![32]⟩
abbrev S4 : Shape := ⟨1, ![4]⟩
abbrev S_ : Shape := ⟨0, ![]⟩
abbrev S1024x2048 : Shape := ⟨2, ![1024, 2048]⟩
abbrev S128x128 : Shape := ⟨2, ![128, 128]⟩
abbrev S128x1024 : Shape := ⟨2, ![128, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x128, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .f32⟩
  | .local _ .vmem, ⟨1, _⟩ => ⟨S128x2048, .f32⟩
  | .local _ .vmem, ⟨2, _⟩ => ⟨S4096x128, .fp8e4m3⟩
  | .local _ .vmem, ⟨3, _⟩ => ⟨S128x4096, .fp8e4m3⟩
  | .local _ .vmem, ⟨4, _⟩ => ⟨S4096x2048, .f32⟩
  | .local _ .vmem, ⟨5, _⟩ => ⟨S4096x2048, .fp8e4m3⟩
  | .local _ .vmem, ⟨6, _⟩ => ⟨S128x2048, .f32⟩
  | .local _ .smem, ⟨0, _⟩ => ⟨S1, .f32⟩
  | .local _ .smem, ⟨1, _⟩ => ⟨S1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_9 : BitVec 32 := 1#32
  let v28 : BitVec 32 := Scalar.addi v2 c1_i32_9
  let c32_i32_10 : BitVec 32 := 32#32
  let v29 : BitVec 32 := Scalar.remsi v28 c32_i32_10
  let c1_i32_12 : BitVec 32 := 1#32
  let v30 : BitVec 32 := Scalar.muli v29 c1_i32_12
  let v31 : BitVec 32 := Scalar.addi c0_i32_13 v30
  v31.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v32 : BitVec 32 := Scalar.addi v2 c2_i32
  let c32_i32_14 : BitVec 32 := 32#32
  let v33 : BitVec 32 := Scalar.remsi v32 c32_i32_14
  let c1_i32_16 : BitVec 32 := 1#32
  let v34 : BitVec 32 := Scalar.muli v33 c1_i32_16
  let v35 : BitVec 32 := Scalar.addi c0_i32_17 v34
  v35.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v36 : BitVec 32 := Scalar.addi v2 c3_i32
  let c32_i32_18 : BitVec 32 := 32#32
  let v37 : BitVec 32 := Scalar.remsi v36 c32_i32_18
  let c1_i32_20 : BitVec 32 := 1#32
  let v38 : BitVec 32 := Scalar.muli v37 c1_i32_20
  let v39 : BitVec 32 := Scalar.addi c0_i32_21 v38
  v39.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v40 : BitVec 32 := Scalar.addi v2 c4_i32
  let c32_i32_22 : BitVec 32 := 32#32
  let v41 : BitVec 32 := Scalar.remsi v40 c32_i32_22
  let c1_i32_24 : BitVec 32 := 1#32
  let v42 : BitVec 32 := Scalar.muli v41 c1_i32_24
  let v43 : BitVec 32 := Scalar.addi c0_i32_25 v42
  v43.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v44 : BitVec 32 := Scalar.addi v2 c5_i32
  let c32_i32_26 : BitVec 32 := 32#32
  let v45 : BitVec 32 := Scalar.remsi v44 c32_i32_26
  let c1_i32_28 : BitVec 32 := 1#32
  let v46 : BitVec 32 := Scalar.muli v45 c1_i32_28
  let v47 : BitVec 32 := Scalar.addi c0_i32_29 v46
  v47.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v48 : BitVec 32 := Scalar.addi v2 c6_i32
  let c32_i32_30 : BitVec 32 := 32#32
  let v49 : BitVec 32 := Scalar.remsi v48 c32_i32_30
  let c1_i32_32 : BitVec 32 := 1#32
  let v50 : BitVec 32 := Scalar.muli v49 c1_i32_32
  let v51 : BitVec 32 := Scalar.addi c0_i32_33 v50
  v51.toNat
def k0_dev7 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v52 : BitVec 32 := Scalar.addi v2 c7_i32
  let c32_i32_34 : BitVec 32 := 32#32
  let v53 : BitVec 32 := Scalar.remsi v52 c32_i32_34
  let c1_i32_36 : BitVec 32 := 1#32
  let v54 : BitVec 32 := Scalar.muli v53 c1_i32_36
  let v55 : BitVec 32 := Scalar.addi c0_i32_37 v54
  v55.toNat
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_38 : BitVec 32 := 8#32
  let v56 : BitVec 32 := Scalar.addi v2 c8_i32_38
  let c32_i32_39 : BitVec 32 := 32#32
  let v57 : BitVec 32 := Scalar.remsi v56 c32_i32_39
  let c1_i32_41 : BitVec 32 := 1#32
  let v58 : BitVec 32 := Scalar.muli v57 c1_i32_41
  let v59 : BitVec 32 := Scalar.addi c0_i32_42 v58
  v59.toNat
def k0_dev9 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v60 : BitVec 32 := Scalar.addi v2 c9_i32
  let c32_i32_43 : BitVec 32 := 32#32
  let v61 : BitVec 32 := Scalar.remsi v60 c32_i32_43
  let c1_i32_45 : BitVec 32 := 1#32
  let v62 : BitVec 32 := Scalar.muli v61 c1_i32_45
  let v63 : BitVec 32 := Scalar.addi c0_i32_46 v62
  v63.toNat
def k0_dev10 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v64 : BitVec 32 := Scalar.addi v2 c10_i32
  let c32_i32_47 : BitVec 32 := 32#32
  let v65 : BitVec 32 := Scalar.remsi v64 c32_i32_47
  let c1_i32_49 : BitVec 32 := 1#32
  let v66 : BitVec 32 := Scalar.muli v65 c1_i32_49
  let v67 : BitVec 32 := Scalar.addi c0_i32_50 v66
  v67.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v68 : BitVec 32 := Scalar.addi v2 c11_i32
  let c32_i32_51 : BitVec 32 := 32#32
  let v69 : BitVec 32 := Scalar.remsi v68 c32_i32_51
  let c1_i32_53 : BitVec 32 := 1#32
  let v70 : BitVec 32 := Scalar.muli v69 c1_i32_53
  let v71 : BitVec 32 := Scalar.addi c0_i32_54 v70
  v71.toNat
def k0_dev12 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v72 : BitVec 32 := Scalar.addi v2 c12_i32
  let c32_i32_55 : BitVec 32 := 32#32
  let v73 : BitVec 32 := Scalar.remsi v72 c32_i32_55
  let c1_i32_57 : BitVec 32 := 1#32
  let v74 : BitVec 32 := Scalar.muli v73 c1_i32_57
  let v75 : BitVec 32 := Scalar.addi c0_i32_58 v74
  v75.toNat
def k0_dev13 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v76 : BitVec 32 := Scalar.addi v2 c13_i32
  let c32_i32_59 : BitVec 32 := 32#32
  let v77 : BitVec 32 := Scalar.remsi v76 c32_i32_59
  let c1_i32_61 : BitVec 32 := 1#32
  let v78 : BitVec 32 := Scalar.muli v77 c1_i32_61
  let v79 : BitVec 32 := Scalar.addi c0_i32_62 v78
  v79.toNat
def k0_dev14 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v80 : BitVec 32 := Scalar.addi v2 c14_i32
  let c32_i32_63 : BitVec 32 := 32#32
  let v81 : BitVec 32 := Scalar.remsi v80 c32_i32_63
  let c1_i32_65 : BitVec 32 := 1#32
  let v82 : BitVec 32 := Scalar.muli v81 c1_i32_65
  let v83 : BitVec 32 := Scalar.addi c0_i32_66 v82
  v83.toNat
def k0_dev15 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v84 : BitVec 32 := Scalar.addi v2 c15_i32
  let c32_i32_67 : BitVec 32 := 32#32
  let v85 : BitVec 32 := Scalar.remsi v84 c32_i32_67
  let c1_i32_69 : BitVec 32 := 1#32
  let v86 : BitVec 32 := Scalar.muli v85 c1_i32_69
  let v87 : BitVec 32 := Scalar.addi c0_i32_70 v86
  v87.toNat
def k0_dev16 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v88 : BitVec 32 := Scalar.addi v2 c16_i32
  let c32_i32_71 : BitVec 32 := 32#32
  let v89 : BitVec 32 := Scalar.remsi v88 c32_i32_71
  let c1_i32_73 : BitVec 32 := 1#32
  let v90 : BitVec 32 := Scalar.muli v89 c1_i32_73
  let v91 : BitVec 32 := Scalar.addi c0_i32_74 v90
  v91.toNat
def k0_dev17 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v92 : BitVec 32 := Scalar.addi v2 c17_i32
  let c32_i32_75 : BitVec 32 := 32#32
  let v93 : BitVec 32 := Scalar.remsi v92 c32_i32_75
  let c1_i32_77 : BitVec 32 := 1#32
  let v94 : BitVec 32 := Scalar.muli v93 c1_i32_77
  let v95 : BitVec 32 := Scalar.addi c0_i32_78 v94
  v95.toNat
def k0_dev18 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v96 : BitVec 32 := Scalar.addi v2 c18_i32
  let c32_i32_79 : BitVec 32 := 32#32
  let v97 : BitVec 32 := Scalar.remsi v96 c32_i32_79
  let c1_i32_81 : BitVec 32 := 1#32
  let v98 : BitVec 32 := Scalar.muli v97 c1_i32_81
  let v99 : BitVec 32 := Scalar.addi c0_i32_82 v98
  v99.toNat
def k0_dev19 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v100 : BitVec 32 := Scalar.addi v2 c19_i32
  let c32_i32_83 : BitVec 32 := 32#32
  let v101 : BitVec 32 := Scalar.remsi v100 c32_i32_83
  let c1_i32_85 : BitVec 32 := 1#32
  let v102 : BitVec 32 := Scalar.muli v101 c1_i32_85
  let v103 : BitVec 32 := Scalar.addi c0_i32_86 v102
  v103.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v104 : BitVec 32 := Scalar.addi v2 c20_i32
  let c32_i32_87 : BitVec 32 := 32#32
  let v105 : BitVec 32 := Scalar.remsi v104 c32_i32_87
  let c1_i32_89 : BitVec 32 := 1#32
  let v106 : BitVec 32 := Scalar.muli v105 c1_i32_89
  let v107 : BitVec 32 := Scalar.addi c0_i32_90 v106
  v107.toNat
def k0_dev21 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v108 : BitVec 32 := Scalar.addi v2 c21_i32
  let c32_i32_91 : BitVec 32 := 32#32
  let v109 : BitVec 32 := Scalar.remsi v108 c32_i32_91
  let c1_i32_93 : BitVec 32 := 1#32
  let v110 : BitVec 32 := Scalar.muli v109 c1_i32_93
  let v111 : BitVec 32 := Scalar.addi c0_i32_94 v110
  v111.toNat
def k0_dev22 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v112 : BitVec 32 := Scalar.addi v2 c22_i32
  let c32_i32_95 : BitVec 32 := 32#32
  let v113 : BitVec 32 := Scalar.remsi v112 c32_i32_95
  let c1_i32_97 : BitVec 32 := 1#32
  let v114 : BitVec 32 := Scalar.muli v113 c1_i32_97
  let v115 : BitVec 32 := Scalar.addi c0_i32_98 v114
  v115.toNat
def k0_dev23 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v116 : BitVec 32 := Scalar.addi v2 c23_i32
  let c32_i32_99 : BitVec 32 := 32#32
  let v117 : BitVec 32 := Scalar.remsi v116 c32_i32_99
  let c1_i32_101 : BitVec 32 := 1#32
  let v118 : BitVec 32 := Scalar.muli v117 c1_i32_101
  let v119 : BitVec 32 := Scalar.addi c0_i32_102 v118
  v119.toNat
def k0_dev24 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v120 : BitVec 32 := Scalar.addi v2 c24_i32
  let c32_i32_103 : BitVec 32 := 32#32
  let v121 : BitVec 32 := Scalar.remsi v120 c32_i32_103
  let c1_i32_105 : BitVec 32 := 1#32
  let v122 : BitVec 32 := Scalar.muli v121 c1_i32_105
  let v123 : BitVec 32 := Scalar.addi c0_i32_106 v122
  v123.toNat
def k0_dev25 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v124 : BitVec 32 := Scalar.addi v2 c25_i32
  let c32_i32_107 : BitVec 32 := 32#32
  let v125 : BitVec 32 := Scalar.remsi v124 c32_i32_107
  let c1_i32_109 : BitVec 32 := 1#32
  let v126 : BitVec 32 := Scalar.muli v125 c1_i32_109
  let v127 : BitVec 32 := Scalar.addi c0_i32_110 v126
  v127.toNat
def k0_dev26 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v128 : BitVec 32 := Scalar.addi v2 c26_i32
  let c32_i32_111 : BitVec 32 := 32#32
  let v129 : BitVec 32 := Scalar.remsi v128 c32_i32_111
  let c1_i32_113 : BitVec 32 := 1#32
  let v130 : BitVec 32 := Scalar.muli v129 c1_i32_113
  let v131 : BitVec 32 := Scalar.addi c0_i32_114 v130
  v131.toNat
def k0_dev27 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v132 : BitVec 32 := Scalar.addi v2 c27_i32
  let c32_i32_115 : BitVec 32 := 32#32
  let v133 : BitVec 32 := Scalar.remsi v132 c32_i32_115
  let c1_i32_117 : BitVec 32 := 1#32
  let v134 : BitVec 32 := Scalar.muli v133 c1_i32_117
  let v135 : BitVec 32 := Scalar.addi c0_i32_118 v134
  v135.toNat
def k0_dev28 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v136 : BitVec 32 := Scalar.addi v2 c28_i32
  let c32_i32_119 : BitVec 32 := 32#32
  let v137 : BitVec 32 := Scalar.remsi v136 c32_i32_119
  let c1_i32_121 : BitVec 32 := 1#32
  let v138 : BitVec 32 := Scalar.muli v137 c1_i32_121
  let v139 : BitVec 32 := Scalar.addi c0_i32_122 v138
  v139.toNat
def k0_dev29 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v140 : BitVec 32 := Scalar.addi v2 c29_i32
  let c32_i32_123 : BitVec 32 := 32#32
  let v141 : BitVec 32 := Scalar.remsi v140 c32_i32_123
  let c1_i32_125 : BitVec 32 := 1#32
  let v142 : BitVec 32 := Scalar.muli v141 c1_i32_125
  let v143 : BitVec 32 := Scalar.addi c0_i32_126 v142
  v143.toNat
def k0_dev30 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v144 : BitVec 32 := Scalar.addi v2 c30_i32
  let c32_i32_127 : BitVec 32 := 32#32
  let v145 : BitVec 32 := Scalar.remsi v144 c32_i32_127
  let c1_i32_129 : BitVec 32 := 1#32
  let v146 : BitVec 32 := Scalar.muli v145 c1_i32_129
  let v147 : BitVec 32 := Scalar.addi c0_i32_130 v146
  v147.toNat
def k0_dev31 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v148 : BitVec 32 := Scalar.addi v2 c31_i32
  let c32_i32_131 : BitVec 32 := 32#32
  let v149 : BitVec 32 := Scalar.remsi v148 c32_i32_131
  let c1_i32_133 : BitVec 32 := 1#32
  let v150 : BitVec 32 := Scalar.muli v149 c1_i32_133
  let v151 : BitVec 32 := Scalar.addi c0_i32_134 v150
  v151.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 2 → Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_158 : BitVec 32 := 128#32
  let v175 : BitVec 32 := Scalar.muli v2 c128_i32_158
  ![0, v175.toNat]
def k0_off3 (d0 : Dev nD) (c0_i32_153 : BitVec 32) (c1_i32_156 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v168 : BitVec 32 := Scalar.addi v19 c0_i32_153
  let c4_i32_154 : BitVec 32 := 4#32
  let v169 : BitVec 32 := Scalar.remsi v168 c4_i32_154
  let c8_i32_155 : BitVec 32 := 8#32
  let v170 : BitVec 32 := Scalar.muli v169 c8_i32_155
  let c8_i32_5 : BitVec 32 := 8#32
  let v20 : BitVec 32 := Scalar.remsi v2 c8_i32_5
  let v171 : BitVec 32 := Scalar.addi v20 c1_i32_156
  let c8_i32_157 : BitVec 32 := 8#32
  let v172 : BitVec 32 := Scalar.remsi v171 c8_i32_157
  let v173 : BitVec 32 := Scalar.addi v170 v172
  let c128_i32 : BitVec 32 := 128#32
  let v174 : BitVec 32 := Scalar.muli v173 c128_i32
  let c0_i32_163 : BitVec 32 := 0#32
  ![v174.toNat, 0]
def k0_off3_at (r : Fin 31) : BitVec 32 × BitVec 32 :=
  if r.val < 15 then
    if r.val < 7 then
      if r.val < 3 then
        if r.val < 1 then
          (0#32, 1#32)
        else
          if r.val < 2 then
            (0#32, 2#32)
          else
            (0#32, 3#32)
      else
        if r.val < 5 then
          if r.val < 4 then
            (0#32, 4#32)
          else
            (0#32, 5#32)
        else
          if r.val < 6 then
            (0#32, 6#32)
          else
            (0#32, 7#32)
    else
      if r.val < 11 then
        if r.val < 9 then
          if r.val < 8 then
            (1#32, 0#32)
          else
            (1#32, 1#32)
        else
          if r.val < 10 then
            (1#32, 2#32)
          else
            (1#32, 3#32)
      else
        if r.val < 13 then
          if r.val < 12 then
            (1#32, 4#32)
          else
            (1#32, 5#32)
        else
          if r.val < 14 then
            (1#32, 6#32)
          else
            (1#32, 7#32)
  else
    if r.val < 23 then
      if r.val < 19 then
        if r.val < 17 then
          if r.val < 16 then
            (2#32, 0#32)
          else
            (2#32, 1#32)
        else
          if r.val < 18 then
            (2#32, 2#32)
          else
            (2#32, 3#32)
      else
        if r.val < 21 then
          if r.val < 20 then
            (2#32, 4#32)
          else
            (2#32, 5#32)
        else
          if r.val < 22 then
            (2#32, 6#32)
          else
            (2#32, 7#32)
    else
      if r.val < 27 then
        if r.val < 25 then
          if r.val < 24 then
            (3#32, 0#32)
          else
            (3#32, 1#32)
        else
          if r.val < 26 then
            (3#32, 2#32)
          else
            (3#32, 3#32)
      else
        if r.val < 29 then
          if r.val < 28 then
            (3#32, 4#32)
          else
            (3#32, 5#32)
        else
          if r.val < 30 then
            (3#32, 6#32)
          else
            (3#32, 7#32)
def k0_dev32 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_153 : BitVec 32 := 0#32
  let v168 : BitVec 32 := Scalar.addi v19 c0_i32_153
  let c4_i32_154 : BitVec 32 := 4#32
  let v169 : BitVec 32 := Scalar.remsi v168 c4_i32_154
  let c8_i32_155 : BitVec 32 := 8#32
  let v170 : BitVec 32 := Scalar.muli v169 c8_i32_155
  let c8_i32_5 : BitVec 32 := 8#32
  let v20 : BitVec 32 := Scalar.remsi v2 c8_i32_5
  let c1_i32_156 : BitVec 32 := 1#32
  let v171 : BitVec 32 := Scalar.addi v20 c1_i32_156
  let c8_i32_157 : BitVec 32 := 8#32
  let v172 : BitVec 32 := Scalar.remsi v171 c8_i32_157
  let v173 : BitVec 32 := Scalar.addi v170 v172
  let c1_i32_160 : BitVec 32 := 1#32
  let v176 : BitVec 32 := Scalar.muli v173 c1_i32_160
  let v177 : BitVec 32 := Scalar.addi c0_i32_161 v176
  v177.toNat
def k0_dev33 (d0 : Dev nD) : Nat :=
  let c0_i32_173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_164 : BitVec 32 := 0#32
  let v184 : BitVec 32 := Scalar.addi v19 c0_i32_164
  let c4_i32_165 : BitVec 32 := 4#32
  let v185 : BitVec 32 := Scalar.remsi v184 c4_i32_165
  let c8_i32_166 : BitVec 32 := 8#32
  let v186 : BitVec 32 := Scalar.muli v185 c8_i32_166
  let c8_i32_5 : BitVec 32 := 8#32
  let v20 : BitVec 32 := Scalar.remsi v2 c8_i32_5
  let c2_i32_167 : BitVec 32 := 2#32
  let v187 : BitVec 32 := Scalar.addi v20 c2_i32_167
  let c8_i32_168 : BitVec 32 := 8#32
  let v188 : BitVec 32 := Scalar.remsi v187 c8_i32_168
  let v189 : BitVec 32 := Scalar.addi v186 v188
  let c1_i32_172 : BitVec 32 := 1#32
  let v192 : BitVec 32 := Scalar.muli v189 c1_i32_172
  let v193 : BitVec 32 := Scalar.addi c0_i32_173 v192
  v193.toNat
def k0_dev34 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_176 : BitVec 32 := 0#32
  let v200 : BitVec 32 := Scalar.addi v19 c0_i32_176
  let c4_i32_177 : BitVec 32 := 4#32
  let v201 : BitVec 32 := Scalar.remsi v200 c4_i32_177
  let c8_i32_178 : BitVec 32 := 8#32
  let v202 : BitVec 32 := Scalar.muli v201 c8_i32_178
  let c8_i32_5 : BitVec 32 := 8#32
  let v20 : BitVec 32 := Scalar.remsi v2 c8_i32_5
  let c3_i32_179 : BitVec 32 := 3#32
  let v203 : BitVec 32 := Scalar.addi v20 c3_i32_179
  let c8_i32_180 : BitVec 32 := 8#32
  let v204 : BitVec 32 := Scalar.remsi v203 c8_i32_180
  let v205 : BitVec 32 := Scalar.addi v202 v204
  let c1_i32_184 : BitVec 32 := 1#32
  let v208 : BitVec 32 := Scalar.muli v205 c1_i32_184
  let v209 : BitVec 32 := Scalar.addi c0_i32_185 v208
  v209.toNat
def k0_dev35 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_188 : BitVec 32 := 0#32
  let v216 : BitVec 32 := Scalar.addi v19 c0_i32_188
  let c4_i32_189 : BitVec 32 := 4#32
  let v217 : BitVec 32 := Scalar.remsi v216 c4_i32_189
  let c8_i32_190 : BitVec 32 := 8#32
  let v218 : BitVec 32 := Scalar.muli v217 c8_i32_190
  let c8_i32_5 : BitVec 32 := 8#32
  let v20 : BitVec 32 := Scalar.remsi v2 c8_i32_5
  let c4_i32_191 : BitVec 32 := 4#32
  let v219 : BitVec 32 := Scalar.addi v20 c4_i32_191
  let c8_i32_192 : BitVec 32 := 8#32
  let v220 : BitVec 32 := Scalar.remsi v219 c8_i32_192
  let v221 : BitVec 32 := Scalar.addi v218 v220
  let c1_i32_196 : BitVec 32 := 1#32
  let v224 : BitVec 32 := Scalar.muli v221 c1_i32_196
  let v225 : BitVec 32 := Scalar.addi c0_i32_197 v224
  v225.toNat
def k0_dev36 (d0 : Dev nD) : Nat :=
  let c0_i32_209 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_200 : BitVec 32 := 0#32
  let v232 : BitVec 32 := Scalar.addi v19 c0_i32_200
  let c4_i32_201 : BitVec 32 := 4#32
  let v233 : BitVec 32 := Scalar.remsi v232 c4_i32_201
  let c8_i32_202 : BitVec 32 := 8#32
  let v234 : BitVec 32 := Scalar.muli v233 c8_i32_202
  let c8_i32_5 : BitVec 32 := 8#32
  let v20 : BitVec 32 := Scalar.remsi v2 c8_i32_5
  let c5_i32_203 : BitVec 32 := 5#32
  let v235 : BitVec 32 := Scalar.addi v20 c5_i32_203
  let c8_i32_204 : BitVec 32 := 8#32
  let v236 : BitVec 32 := Scalar.remsi v235 c8_i32_204
  let v237 : BitVec 32 := Scalar.addi v234 v236
  let c1_i32_208 : BitVec 32 := 1#32
  let v240 : BitVec 32 := Scalar.muli v237 c1_i32_208
  let v241 : BitVec 32 := Scalar.addi c0_i32_209 v240
  v241.toNat
def k0_dev37 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_212 : BitVec 32 := 0#32
  let v248 : BitVec 32 := Scalar.addi v19 c0_i32_212
  let c4_i32_213 : BitVec 32 := 4#32
  let v249 : BitVec 32 := Scalar.remsi v248 c4_i32_213
  let c8_i32_214 : BitVec 32 := 8#32
  let v250 : BitVec 32 := Scalar.muli v249 c8_i32_214
  let c8_i32_5 : BitVec 32 := 8#32
  let v20 : BitVec 32 := Scalar.remsi v2 c8_i32_5
  let c6_i32_215 : BitVec 32 := 6#32
  let v251 : BitVec 32 := Scalar.addi v20 c6_i32_215
  let c8_i32_216 : BitVec 32 := 8#32
  let v252 : BitVec 32 := Scalar.remsi v251 c8_i32_216
  let v253 : BitVec 32 := Scalar.addi v250 v252
  let c1_i32_220 : BitVec 32 := 1#32
  let v256 : BitVec 32 := Scalar.muli v253 c1_i32_220
  let v257 : BitVec 32 := Scalar.addi c0_i32_221 v256
  v257.toNat
def k0_dev38 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_224 : BitVec 32 := 0#32
  let v264 : BitVec 32 := Scalar.addi v19 c0_i32_224
  let c4_i32_225 : BitVec 32 := 4#32
  let v265 : BitVec 32 := Scalar.remsi v264 c4_i32_225
  let c8_i32_226 : BitVec 32 := 8#32
  let v266 : BitVec 32 := Scalar.muli v265 c8_i32_226
  let c8_i32_5 : BitVec 32 := 8#32
  let v20 : BitVec 32 := Scalar.remsi v2 c8_i32_5
  let c7_i32_227 : BitVec 32 := 7#32
  let v267 : BitVec 32 := Scalar.addi v20 c7_i32_227
  let c8_i32_228 : BitVec 32 := 8#32
  let v268 : BitVec 32 := Scalar.remsi v267 c8_i32_228
  let v269 : BitVec 32 := Scalar.addi v266 v268
  let c1_i32_232 : BitVec 32 := 1#32
  let v272 : BitVec 32 := Scalar.muli v269 c1_i32_232
  let v273 : BitVec 32 := Scalar.addi c0_i32_233 v272
  v273.toNat
def k0_dev39 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_236 : BitVec 32 := 1#32
  let v280 : BitVec 32 := Scalar.addi v19 c1_i32_236
  let c4_i32_237 : BitVec 32 := 4#32
  let v281 : BitVec 32 := Scalar.remsi v280 c4_i32_237
  let c8_i32_238 : BitVec 32 := 8#32
  let v282 : BitVec 32 := Scalar.muli v281 c8_i32_238
  let c8_i32_5 : BitVec 32 := 8#32
  let v20 : BitVec 32 := Scalar.remsi v2 c8_i32_5
  let c0_i32_239 : BitVec 32 := 0#32
  let v283 : BitVec 32 := Scalar.addi v20 c0_i32_239
  let c8_i32_240 : BitVec 32 := 8#32
  let v284 : BitVec 32 := Scalar.remsi v283 c8_i32_240
  let v285 : BitVec 32 := Scalar.addi v282 v284
  let c1_i32_244 : BitVec 32 := 1#32
  let v288 : BitVec 32 := Scalar.muli v285 c1_i32_244
  let v289 : BitVec 32 := Scalar.addi c0_i32_245 v288
  v289.toNat
def k0_dev40 (d0 : Dev nD) : Nat :=
  let c0_i32_257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_248 : BitVec 32 := 1#32
  let v296 : BitVec 32 := Scalar.addi v19 c1_i32_248
  let c4_i32_249 : BitVec 32 := 4#32
  let v297 : BitVec 32 := Scalar.remsi v296 c4_i32_249
  let c8_i32_250 : BitVec 32 := 8#32
  let v298 : BitVec 32 := Scalar.muli v297 c8_i32_250
  let c8_i32_5 : BitVec 32 := 8#32
  let v20 : BitVec 32 := Scalar.remsi v2 c8_i32_5
  let c1_i32_251 : BitVec 32 := 1#32
  let v299 : BitVec 32 := Scalar.addi v20 c1_i32_251
  let c8_i32_252 : BitVec 32 := 8#32
  let v300 : BitVec 32 := Scalar.remsi v299 c8_i32_252
  let v301 : BitVec 32 := Scalar.addi v298 v300
  let c1_i32_256 : BitVec 32 := 1#32
  let v304 : BitVec 32 := Scalar.muli v301 c1_i32_256
  let v305 : BitVec 32 := Scalar.addi c0_i32_257 v304
  v305.toNat
def k0_dev41 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_260 : BitVec 32 := 1#32
  let v312 : BitVec 32 := Scalar.addi v19 c1_i32_260
  let c4_i32_261 : BitVec 32 := 4#32
  let v313 : BitVec 32 := Scalar.remsi v312 c4_i32_261
  let c8_i32_262 : BitVec 32 := 8#32
  let v314 : BitVec 32 := Scalar.muli v313 c8_i32_262
  let c8_i32_5 : BitVec 32 := 8#32
  let v20 : BitVec 32 := Scalar.remsi v2 c8_i32_5
  let c2_i32_263 : BitVec 32 := 2#32
  let v315 : BitVec 32 := Scalar.addi v20 c2_i32_263
  let c8_i32_264 : BitVec 32 := 8#32
  let v316 : BitVec 32 := Scalar.remsi v315 c8_i32_264
  let v317 : BitVec 32 := Scalar.addi v314 v316
  let c1_i32_268 : BitVec 32 := 1#32
  let v320 : BitVec 32 := Scalar.muli v317 c1_i32_268
  let v321 : BitVec 32 := Scalar.addi c0_i32_269 v320
  v321.toNat
def k0_dev42 (d0 : Dev nD) : Nat :=
  let c0_i32_281 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_272 : BitVec 32 := 1#32
  let v328 : BitVec 32 := Scalar.addi v19 c1_i32_272
  let c4_i32_273 : BitVec 32 := 4#32
  let v329 : BitVec 32 := Scalar.remsi v328 c4_i32_273
  let c8_i32_274 : BitVec 32 := 8#32
  let v330 : BitVec 32 := Scalar.muli v329 c8_i32_274
  let c8_i32_5 : BitVec 32 := 8#32
  let v20 : BitVec 32 := Scalar.remsi v2 c8_i32_5
  let c3_i32_275 : BitVec 32 := 3#32
  let v331 : BitVec 32 := Scalar.addi v20 c3_i32_275
  let c8_i32_276 : BitVec 32 := 8#32
  let v332 : BitVec 32 := Scalar.remsi v331 c8_i32_276
  let v333 : BitVec 32 := Scalar.addi v330 v332
  let c1_i32_280 : BitVec 32 := 1#32
  let v336 : BitVec 32 := Scalar.muli v333 c1_i32_280
  let v337 : BitVec 32 := Scalar.addi c0_i32_281 v336
  v337.toNat
def k0_dev43 (d0 : Dev nD) : Nat :=
  let c0_i32_293 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_284 : BitVec 32 := 1#32
  let v344 : BitVec 32 := Scalar.addi v19 c1_i32_284
  let c4_i32_285 : BitVec 32 := 4#32
  let v345 : BitVec 32 := Scalar.remsi v344 c4_i32_285
  let c8_i32_286 : BitVec 32 := 8#32
  let v346 : BitVec 32 := Scalar.muli v345 c8_i32_286
  let c8_i32_5 : BitVec 32 := 8#32
  let v20 : BitVec 32 := Scalar.remsi v2 c8_i32_5
  let c4_i32_287 : BitVec 32 := 4#32
  let v347 : BitVec 32 := Scalar.addi v20 c4_i32_287
  let c8_i32_288 : BitVec 32 := 8#32
  let v348 : BitVec 32 := Scalar.remsi v347 c8_i32_288
  let v349 : BitVec 32 := Scalar.addi v346 v348
  let c1_i32_292 : BitVec 32 := 1#32
  let v352 : BitVec 32 := Scalar.muli v349 c1_i32_292
  let v353 : BitVec 32 := Scalar.addi c0_i32_293 v352
  v353.toNat
def k0_dev44 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_296 : BitVec 32 := 1#32
  let v360 : BitVec 32 := Scalar.addi v19 c1_i32_296
  let c4_i32_297 : BitVec 32 := 4#32
  let v361 : BitVec 32 := Scalar.remsi v360 c4_i32_297
  let c8_i32_298 : BitVec 32 := 8#32
  let v362 : BitVec 32 := Scalar.muli v361 c8_i32_298
  let c8_i32_5 : BitVec 32 := 8#32
  let v20 : BitVec 32 := Scalar.remsi v2 c8_i32_5
  let c5_i32_299 : BitVec 32 := 5#32
  let v363 : BitVec 32 := Scalar.addi v20 c5_i32_299
  let c8_i32_300 : BitVec 32 := 8#32
  let v364 : BitVec 32 := Scalar.remsi v363 c8_i32_300
  let v365 : BitVec 32 := Scalar.addi v362 v364
  let c1_i32_304 : BitVec 32 := 1#32
  let v368 : BitVec 32 := Scalar.muli v365 c1_i32_304
  let v369 : BitVec 32 := Scalar.addi c0_i32_305 v368
  v369.toNat
def k0_dev45 (d0 : Dev nD) : Nat :=
  let c0_i32_317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_308 : BitVec 32 := 1#32
  let v376 : BitVec 32 := Scalar.addi v19 c1_i32_308
  let c4_i32_309 : BitVec 32 := 4#32
  let v377 : BitVec 32 := Scalar.remsi v376 c4_i32_309
  let c8_i32_310 : BitVec 32 := 8#32
  let v378 : BitVec 32 := Scalar.muli v377 c8_i32_310
  let c8_i32_5 : BitVec 32 := 8#32
  let v20 : BitVec 32 := Scalar.remsi v2 c8_i32_5
  let c6_i32_311 : BitVec 32 := 6#32
  let v379 : BitVec 32 := Scalar.addi v20 c6_i32_311
  let c8_i32_312 : BitVec 32 := 8#32
  let v380 : BitVec 32 := Scalar.remsi v379 c8_i32_312
  let v381 : BitVec 32 := Scalar.addi v378 v380
  let c1_i32_316 : BitVec 32 := 1#32
  let v384 : BitVec 32 := Scalar.muli v381 c1_i32_316
  let v385 : BitVec 32 := Scalar.addi c0_i32_317 v384
  v385.toNat
def k0_dev46 (d0 : Dev nD) : Nat :=
  let c0_i32_329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_320 : BitVec 32 := 1#32
  let v392 : BitVec 32 := Scalar.addi v19 c1_i32_320
  let c4_i32_321 : BitVec 32 := 4#32
  let v393 : BitVec 32 := Scalar.remsi v392 c4_i32_321
  let c8_i32_322 : BitVec 32 := 8#32
  let v394 : BitVec 32 := Scalar.muli v393 c8_i32_322
  let c8_i32_5 : BitVec 32 := 8#32
  let v20 : BitVec 32 := Scalar.remsi v2 c8_i32_5
  let c7_i32_323 : BitVec 32 := 7#32
  let v395 : BitVec 32 := Scalar.addi v20 c7_i32_323
  let c8_i32_324 : BitVec 32 := 8#32
  let v396 : BitVec 32 := Scalar.remsi v395 c8_i32_324
  let v397 : BitVec 32 := Scalar.addi v394 v396
  let c1_i32_328 : BitVec 32 := 1#32
  let v400 : BitVec 32 := Scalar.muli v397 c1_i32_328
  let v401 : BitVec 32 := Scalar.addi c0_i32_329 v400
  v401.toNat
def k0_dev47 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_332 : BitVec 32 := 2#32
  let v408 : BitVec 32 := Scalar.addi v19 c2_i32_332
  let c4_i32_333 : BitVec 32 := 4#32
  let v409 : BitVec 32 := Scalar.remsi v408 c4_i32_333
  let c8_i32_334 : BitVec 32 := 8#32
  let v410 : BitVec 32 := Scalar.muli v409 c8_i32_334
  let c8_i32_5 : BitVec 32 := 8#32
  let v20 : BitVec 32 := Scalar.remsi v2 c8_i32_5
  let c0_i32_335 : BitVec 32 := 0#32
  let v411 : BitVec 32 := Scalar.addi v20 c0_i32_335
  let c8_i32_336 : BitVec 32 := 8#32
  let v412 : BitVec 32 := Scalar.remsi v411 c8_i32_336
  let v413 : BitVec 32 := Scalar.addi v410 v412
  let c1_i32_340 : BitVec 32 := 1#32
  let v416 : BitVec 32 := Scalar.muli v413 c1_i32_340
  let v417 : BitVec 32 := Scalar.addi c0_i32_341 v416
  v417.toNat
def k0_dev48 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_344 : BitVec 32 := 2#32
  let v424 : BitVec 32 := Scalar.addi v19 c2_i32_344
  let c4_i32_345 : BitVec 32 := 4#32
  let v425 : BitVec 32 := Scalar.remsi v424 c4_i32_345
  let c8_i32_346 : BitVec 32 := 8#32
  let v426 : BitVec 32 := Scalar.muli v425 c8_i32_346
  let c8_i32_5 : BitVec 32 := 8#32
  let v20 : BitVec 32 := Scalar.remsi v2 c8_i32_5
  let c1_i32_347 : BitVec 32 := 1#32
  let v427 : BitVec 32 := Scalar.addi v20 c1_i32_347
  let c8_i32_348 : BitVec 32 := 8#32
  let v428 : BitVec 32 := Scalar.remsi v427 c8_i32_348
  let v429 : BitVec 32 := Scalar.addi v426 v428
  let c1_i32_352 : BitVec 32 := 1#32
  let v432 : BitVec 32 := Scalar.muli v429 c1_i32_352
  let v433 : BitVec 32 := Scalar.addi c0_i32_353 v432
  v433.toNat
def k0_dev49 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_356 : BitVec 32 := 2#32
  let v440 : BitVec 32 := Scalar.addi v19 c2_i32_356
  let c4_i32_357 : BitVec 32 := 4#32
  let v441 : BitVec 32 := Scalar.remsi v440 c4_i32_357
  let c8_i32_358 : BitVec 32 := 8#32
  let v442 : BitVec 32 := Scalar.muli v441 c8_i32_358
  let c8_i32_5 : BitVec 32 := 8#32
  let v20 : BitVec 32 := Scalar.remsi v2 c8_i32_5
  let c2_i32_359 : BitVec 32 := 2#32
  let v443 : BitVec 32 := Scalar.addi v20 c2_i32_359
  let c8_i32_360 : BitVec 32 := 8#32
  let v444 : BitVec 32 := Scalar.remsi v443 c8_i32_360
  let v445 : BitVec 32 := Scalar.addi v442 v444
  let c1_i32_364 : BitVec 32 := 1#32
  let v448 : BitVec 32 := Scalar.muli v445 c1_i32_364
  let v449 : BitVec 32 := Scalar.addi c0_i32_365 v448
  v449.toNat
def k0_dev50 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_368 : BitVec 32 := 2#32
  let v456 : BitVec 32 := Scalar.addi v19 c2_i32_368
  let c4_i32_369 : BitVec 32 := 4#32
  let v457 : BitVec 32 := Scalar.remsi v456 c4_i32_369
  let c8_i32_370 : BitVec 32 := 8#32
  let v458 : BitVec 32 := Scalar.muli v457 c8_i32_370
  let c8_i32_5 : BitVec 32 := 8#32
  let v20 : BitVec 32 := Scalar.remsi v2 c8_i32_5
  let c3_i32_371 : BitVec 32 := 3#32
  let v459 : BitVec 32 := Scalar.addi v20 c3_i32_371
  let c8_i32_372 : BitVec 32 := 8#32
  let v460 : BitVec 32 := Scalar.remsi v459 c8_i32_372
  let v461 : BitVec 32 := Scalar.addi v458 v460
  let c1_i32_376 : BitVec 32 := 1#32
  let v464 : BitVec 32 := Scalar.muli v461 c1_i32_376
  let v465 : BitVec 32 := Scalar.addi c0_i32_377 v464
  v465.toNat
def k0_dev51 (d0 : Dev nD) : Nat :=
  let c0_i32_389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_380 : BitVec 32 := 2#32
  let v472 : BitVec 32 := Scalar.addi v19 c2_i32_380
  let c4_i32_381 : BitVec 32 := 4#32
  let v473 : BitVec 32 := Scalar.remsi v472 c4_i32_381
  let c8_i32_382 : BitVec 32 := 8#32
  let v474 : BitVec 32 := Scalar.muli v473 c8_i32_382
  let c8_i32_5 : BitVec 32 := 8#32
  let v20 : BitVec 32 := Scalar.remsi v2 c8_i32_5
  let c4_i32_383 : BitVec 32 := 4#32
  let v475 : BitVec 32 := Scalar.addi v20 c4_i32_383
  let c8_i32_384 : BitVec 32 := 8#32
  let v476 : BitVec 32 := Scalar.remsi v475 c8_i32_384
  let v477 : BitVec 32 := Scalar.addi v474 v476
  let c1_i32_388 : BitVec 32 := 1#32
  let v480 : BitVec 32 := Scalar.muli v477 c1_i32_388
  let v481 : BitVec 32 := Scalar.addi c0_i32_389 v480
  v481.toNat
def k0_dev52 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_392 : BitVec 32 := 2#32
  let v488 : BitVec 32 := Scalar.addi v19 c2_i32_392
  let c4_i32_393 : BitVec 32 := 4#32
  let v489 : BitVec 32 := Scalar.remsi v488 c4_i32_393
  let c8_i32_394 : BitVec 32 := 8#32
  let v490 : BitVec 32 := Scalar.muli v489 c8_i32_394
  let c8_i32_5 : BitVec 32 := 8#32
  let v20 : BitVec 32 := Scalar.remsi v2 c8_i32_5
  let c5_i32_395 : BitVec 32 := 5#32
  let v491 : BitVec 32 := Scalar.addi v20 c5_i32_395
  let c8_i32_396 : BitVec 32 := 8#32
  let v492 : BitVec 32 := Scalar.remsi v491 c8_i32_396
  let v493 : BitVec 32 := Scalar.addi v490 v492
  let c1_i32_400 : BitVec 32 := 1#32
  let v496 : BitVec 32 := Scalar.muli v493 c1_i32_400
  let v497 : BitVec 32 := Scalar.addi c0_i32_401 v496
  v497.toNat
def k0_dev53 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_404 : BitVec 32 := 2#32
  let v504 : BitVec 32 := Scalar.addi v19 c2_i32_404
  let c4_i32_405 : BitVec 32 := 4#32
  let v505 : BitVec 32 := Scalar.remsi v504 c4_i32_405
  let c8_i32_406 : BitVec 32 := 8#32
  let v506 : BitVec 32 := Scalar.muli v505 c8_i32_406
  let c8_i32_5 : BitVec 32 := 8#32
  let v20 : BitVec 32 := Scalar.remsi v2 c8_i32_5
  let c6_i32_407 : BitVec 32 := 6#32
  let v507 : BitVec 32 := Scalar.addi v20 c6_i32_407
  let c8_i32_408 : BitVec 32 := 8#32
  let v508 : BitVec 32 := Scalar.remsi v507 c8_i32_408
  let v509 : BitVec 32 := Scalar.addi v506 v508
  let c1_i32_412 : BitVec 32 := 1#32
  let v512 : BitVec 32 := Scalar.muli v509 c1_i32_412
  let v513 : BitVec 32 := Scalar.addi c0_i32_413 v512
  v513.toNat
def k0_dev54 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_416 : BitVec 32 := 2#32
  let v520 : BitVec 32 := Scalar.addi v19 c2_i32_416
  let c4_i32_417 : BitVec 32 := 4#32
  let v521 : BitVec 32 := Scalar.remsi v520 c4_i32_417
  let c8_i32_418 : BitVec 32 := 8#32
  let v522 : BitVec 32 := Scalar.muli v521 c8_i32_418
  let c8_i32_5 : BitVec 32 := 8#32
  let v20 : BitVec 32 := Scalar.remsi v2 c8_i32_5
  let c7_i32_419 : BitVec 32 := 7#32
  let v523 : BitVec 32 := Scalar.addi v20 c7_i32_419
  let c8_i32_420 : BitVec 32 := 8#32
  let v524 : BitVec 32 := Scalar.remsi v523 c8_i32_420
  let v525 : BitVec 32 := Scalar.addi v522 v524
  let c1_i32_424 : BitVec 32 := 1#32
  let v528 : BitVec 32 := Scalar.muli v525 c1_i32_424
  let v529 : BitVec 32 := Scalar.addi c0_i32_425 v528
  v529.toNat
def k0_dev55 (d0 : Dev nD) : Nat :=
  let c0_i32_437 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_428 : BitVec 32 := 3#32
  let v536 : BitVec 32 := Scalar.addi v19 c3_i32_428
  let c4_i32_429 : BitVec 32 := 4#32
  let v537 : BitVec 32 := Scalar.remsi v536 c4_i32_429
  let c8_i32_430 : BitVec 32 := 8#32
  let v538 : BitVec 32 := Scalar.muli v537 c8_i32_430
  let c8_i32_5 : BitVec 32 := 8#32
  let v20 : BitVec 32 := Scalar.remsi v2 c8_i32_5
  let c0_i32_431 : BitVec 32 := 0#32
  let v539 : BitVec 32 := Scalar.addi v20 c0_i32_431
  let c8_i32_432 : BitVec 32 := 8#32
  let v540 : BitVec 32 := Scalar.remsi v539 c8_i32_432
  let v541 : BitVec 32 := Scalar.addi v538 v540
  let c1_i32_436 : BitVec 32 := 1#32
  let v544 : BitVec 32 := Scalar.muli v541 c1_i32_436
  let v545 : BitVec 32 := Scalar.addi c0_i32_437 v544
  v545.toNat
def k0_dev56 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_440 : BitVec 32 := 3#32
  let v552 : BitVec 32 := Scalar.addi v19 c3_i32_440
  let c4_i32_441 : BitVec 32 := 4#32
  let v553 : BitVec 32 := Scalar.remsi v552 c4_i32_441
  let c8_i32_442 : BitVec 32 := 8#32
  let v554 : BitVec 32 := Scalar.muli v553 c8_i32_442
  let c8_i32_5 : BitVec 32 := 8#32
  let v20 : BitVec 32 := Scalar.remsi v2 c8_i32_5
  let c1_i32_443 : BitVec 32 := 1#32
  let v555 : BitVec 32 := Scalar.addi v20 c1_i32_443
  let c8_i32_444 : BitVec 32 := 8#32
  let v556 : BitVec 32 := Scalar.remsi v555 c8_i32_444
  let v557 : BitVec 32 := Scalar.addi v554 v556
  let c1_i32_448 : BitVec 32 := 1#32
  let v560 : BitVec 32 := Scalar.muli v557 c1_i32_448
  let v561 : BitVec 32 := Scalar.addi c0_i32_449 v560
  v561.toNat
def k0_dev57 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_452 : BitVec 32 := 3#32
  let v568 : BitVec 32 := Scalar.addi v19 c3_i32_452
  let c4_i32_453 : BitVec 32 := 4#32
  let v569 : BitVec 32 := Scalar.remsi v568 c4_i32_453
  let c8_i32_454 : BitVec 32 := 8#32
  let v570 : BitVec 32 := Scalar.muli v569 c8_i32_454
  let c8_i32_5 : BitVec 32 := 8#32
  let v20 : BitVec 32 := Scalar.remsi v2 c8_i32_5
  let c2_i32_455 : BitVec 32 := 2#32
  let v571 : BitVec 32 := Scalar.addi v20 c2_i32_455
  let c8_i32_456 : BitVec 32 := 8#32
  let v572 : BitVec 32 := Scalar.remsi v571 c8_i32_456
  let v573 : BitVec 32 := Scalar.addi v570 v572
  let c1_i32_460 : BitVec 32 := 1#32
  let v576 : BitVec 32 := Scalar.muli v573 c1_i32_460
  let v577 : BitVec 32 := Scalar.addi c0_i32_461 v576
  v577.toNat
def k0_dev58 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_464 : BitVec 32 := 3#32
  let v584 : BitVec 32 := Scalar.addi v19 c3_i32_464
  let c4_i32_465 : BitVec 32 := 4#32
  let v585 : BitVec 32 := Scalar.remsi v584 c4_i32_465
  let c8_i32_466 : BitVec 32 := 8#32
  let v586 : BitVec 32 := Scalar.muli v585 c8_i32_466
  let c8_i32_5 : BitVec 32 := 8#32
  let v20 : BitVec 32 := Scalar.remsi v2 c8_i32_5
  let c3_i32_467 : BitVec 32 := 3#32
  let v587 : BitVec 32 := Scalar.addi v20 c3_i32_467
  let c8_i32_468 : BitVec 32 := 8#32
  let v588 : BitVec 32 := Scalar.remsi v587 c8_i32_468
  let v589 : BitVec 32 := Scalar.addi v586 v588
  let c1_i32_472 : BitVec 32 := 1#32
  let v592 : BitVec 32 := Scalar.muli v589 c1_i32_472
  let v593 : BitVec 32 := Scalar.addi c0_i32_473 v592
  v593.toNat
def k0_dev59 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_476 : BitVec 32 := 3#32
  let v600 : BitVec 32 := Scalar.addi v19 c3_i32_476
  let c4_i32_477 : BitVec 32 := 4#32
  let v601 : BitVec 32 := Scalar.remsi v600 c4_i32_477
  let c8_i32_478 : BitVec 32 := 8#32
  let v602 : BitVec 32 := Scalar.muli v601 c8_i32_478
  let c8_i32_5 : BitVec 32 := 8#32
  let v20 : BitVec 32 := Scalar.remsi v2 c8_i32_5
  let c4_i32_479 : BitVec 32 := 4#32
  let v603 : BitVec 32 := Scalar.addi v20 c4_i32_479
  let c8_i32_480 : BitVec 32 := 8#32
  let v604 : BitVec 32 := Scalar.remsi v603 c8_i32_480
  let v605 : BitVec 32 := Scalar.addi v602 v604
  let c1_i32_484 : BitVec 32 := 1#32
  let v608 : BitVec 32 := Scalar.muli v605 c1_i32_484
  let v609 : BitVec 32 := Scalar.addi c0_i32_485 v608
  v609.toNat
def k0_dev60 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_488 : BitVec 32 := 3#32
  let v616 : BitVec 32 := Scalar.addi v19 c3_i32_488
  let c4_i32_489 : BitVec 32 := 4#32
  let v617 : BitVec 32 := Scalar.remsi v616 c4_i32_489
  let c8_i32_490 : BitVec 32 := 8#32
  let v618 : BitVec 32 := Scalar.muli v617 c8_i32_490
  let c8_i32_5 : BitVec 32 := 8#32
  let v20 : BitVec 32 := Scalar.remsi v2 c8_i32_5
  let c5_i32_491 : BitVec 32 := 5#32
  let v619 : BitVec 32 := Scalar.addi v20 c5_i32_491
  let c8_i32_492 : BitVec 32 := 8#32
  let v620 : BitVec 32 := Scalar.remsi v619 c8_i32_492
  let v621 : BitVec 32 := Scalar.addi v618 v620
  let c1_i32_496 : BitVec 32 := 1#32
  let v624 : BitVec 32 := Scalar.muli v621 c1_i32_496
  let v625 : BitVec 32 := Scalar.addi c0_i32_497 v624
  v625.toNat
def k0_dev61 (d0 : Dev nD) : Nat :=
  let c0_i32_509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_500 : BitVec 32 := 3#32
  let v632 : BitVec 32 := Scalar.addi v19 c3_i32_500
  let c4_i32_501 : BitVec 32 := 4#32
  let v633 : BitVec 32 := Scalar.remsi v632 c4_i32_501
  let c8_i32_502 : BitVec 32 := 8#32
  let v634 : BitVec 32 := Scalar.muli v633 c8_i32_502
  let c8_i32_5 : BitVec 32 := 8#32
  let v20 : BitVec 32 := Scalar.remsi v2 c8_i32_5
  let c6_i32_503 : BitVec 32 := 6#32
  let v635 : BitVec 32 := Scalar.addi v20 c6_i32_503
  let c8_i32_504 : BitVec 32 := 8#32
  let v636 : BitVec 32 := Scalar.remsi v635 c8_i32_504
  let v637 : BitVec 32 := Scalar.addi v634 v636
  let c1_i32_508 : BitVec 32 := 1#32
  let v640 : BitVec 32 := Scalar.muli v637 c1_i32_508
  let v641 : BitVec 32 := Scalar.addi c0_i32_509 v640
  v641.toNat
def k0_dev62 (d0 : Dev nD) : Nat :=
  let c0_i32_521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_512 : BitVec 32 := 3#32
  let v648 : BitVec 32 := Scalar.addi v19 c3_i32_512
  let c4_i32_513 : BitVec 32 := 4#32
  let v649 : BitVec 32 := Scalar.remsi v648 c4_i32_513
  let c8_i32_514 : BitVec 32 := 8#32
  let v650 : BitVec 32 := Scalar.muli v649 c8_i32_514
  let c8_i32_5 : BitVec 32 := 8#32
  let v20 : BitVec 32 := Scalar.remsi v2 c8_i32_5
  let c7_i32_515 : BitVec 32 := 7#32
  let v651 : BitVec 32 := Scalar.addi v20 c7_i32_515
  let c8_i32_516 : BitVec 32 := 8#32
  let v652 : BitVec 32 := Scalar.remsi v651 c8_i32_516
  let v653 : BitVec 32 := Scalar.addi v650 v652
  let c1_i32_520 : BitVec 32 := 1#32
  let v656 : BitVec 32 := Scalar.muli v653 c1_i32_520
  let v657 : BitVec 32 := Scalar.addi c0_i32_521 v656
  v657.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_524 : BitVec 32 := 128#32
  let v664 : BitVec 32 := Scalar.muli v2 c128_i32_524
  let c0_i32_527 : BitVec 32 := 0#32
  ![v664.toNat, 0]
def k0_off5 (d0 : Dev nD) (c0_i32_568 : BitVec 32) (c1_i32_572 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_567 : BitVec 32 := 4#32
  let v713 : BitVec 32 := Scalar.addi v19 c4_i32_567
  let v714 : BitVec 32 := Scalar.subi v713 c0_i32_568
  let c4_i32_569 : BitVec 32 := 4#32
  let v715 : BitVec 32 := Scalar.remsi v714 c4_i32_569
  let c8_i32_570 : BitVec 32 := 8#32
  let v716 : BitVec 32 := Scalar.muli v715 c8_i32_570
  let c8_i32_5 : BitVec 32 := 8#32
  let v20 : BitVec 32 := Scalar.remsi v2 c8_i32_5
  let c8_i32_571 : BitVec 32 := 8#32
  let v717 : BitVec 32 := Scalar.addi v20 c8_i32_571
  let v718 : BitVec 32 := Scalar.subi v717 c1_i32_572
  let c8_i32_573 : BitVec 32 := 8#32
  let v719 : BitVec 32 := Scalar.remsi v718 c8_i32_573
  let v720 : BitVec 32 := Scalar.addi v716 v719
  ![v720.toNat]
def k0_off5_at (r : Fin 31) : BitVec 32 × BitVec 32 :=
  if r.val < 15 then
    if r.val < 7 then
      if r.val < 3 then
        if r.val < 1 then
          (0#32, 1#32)
        else
          if r.val < 2 then
            (0#32, 2#32)
          else
            (0#32, 3#32)
      else
        if r.val < 5 then
          if r.val < 4 then
            (0#32, 4#32)
          else
            (0#32, 5#32)
        else
          if r.val < 6 then
            (0#32, 6#32)
          else
            (0#32, 7#32)
    else
      if r.val < 11 then
        if r.val < 9 then
          if r.val < 8 then
            (1#32, 0#32)
          else
            (1#32, 1#32)
        else
          if r.val < 10 then
            (1#32, 2#32)
          else
            (1#32, 3#32)
      else
        if r.val < 13 then
          if r.val < 12 then
            (1#32, 4#32)
          else
            (1#32, 5#32)
        else
          if r.val < 14 then
            (1#32, 6#32)
          else
            (1#32, 7#32)
  else
    if r.val < 23 then
      if r.val < 19 then
        if r.val < 17 then
          if r.val < 16 then
            (2#32, 0#32)
          else
            (2#32, 1#32)
        else
          if r.val < 18 then
            (2#32, 2#32)
          else
            (2#32, 3#32)
      else
        if r.val < 21 then
          if r.val < 20 then
            (2#32, 4#32)
          else
            (2#32, 5#32)
        else
          if r.val < 22 then
            (2#32, 6#32)
          else
            (2#32, 7#32)
    else
      if r.val < 27 then
        if r.val < 25 then
          if r.val < 24 then
            (3#32, 0#32)
          else
            (3#32, 1#32)
        else
          if r.val < 26 then
            (3#32, 2#32)
          else
            (3#32, 3#32)
      else
        if r.val < 29 then
          if r.val < 28 then
            (3#32, 4#32)
          else
            (3#32, 5#32)
        else
          if r.val < 30 then
            (3#32, 6#32)
          else
            (3#32, 7#32)
def k0_off6 (d0 : Dev nD) (c0_i32_568 : BitVec 32) (c1_i32_572 : BitVec 32) : Fin 2 → Nat :=
  let c0_i32_579 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_567 : BitVec 32 := 4#32
  let v713 : BitVec 32 := Scalar.addi v19 c4_i32_567
  let v714 : BitVec 32 := Scalar.subi v713 c0_i32_568
  let c4_i32_569 : BitVec 32 := 4#32
  let v715 : BitVec 32 := Scalar.remsi v714 c4_i32_569
  let c8_i32_570 : BitVec 32 := 8#32
  let v716 : BitVec 32 := Scalar.muli v715 c8_i32_570
  let c8_i32_5 : BitVec 32 := 8#32
  let v20 : BitVec 32 := Scalar.remsi v2 c8_i32_5
  let c8_i32_571 : BitVec 32 := 8#32
  let v717 : BitVec 32 := Scalar.addi v20 c8_i32_571
  let v718 : BitVec 32 := Scalar.subi v717 c1_i32_572
  let c8_i32_573 : BitVec 32 := 8#32
  let v719 : BitVec 32 := Scalar.remsi v718 c8_i32_573
  let v720 : BitVec 32 := Scalar.addi v716 v719
  let c128_i32_574 : BitVec 32 := 128#32
  let v721 : BitVec 32 := Scalar.muli v720 c128_i32_574
  ![0, v721.toNat]
def k0_off6_at (r : Fin 31) : BitVec 32 × BitVec 32 :=
  if r.val < 15 then
    if r.val < 7 then
      if r.val < 3 then
        if r.val < 1 then
          (0#32, 1#32)
        else
          if r.val < 2 then
            (0#32, 2#32)
          else
            (0#32, 3#32)
      else
        if r.val < 5 then
          if r.val < 4 then
            (0#32, 4#32)
          else
            (0#32, 5#32)
        else
          if r.val < 6 then
            (0#32, 6#32)
          else
            (0#32, 7#32)
    else
      if r.val < 11 then
        if r.val < 9 then
          if r.val < 8 then
            (1#32, 0#32)
          else
            (1#32, 1#32)
        else
          if r.val < 10 then
            (1#32, 2#32)
          else
            (1#32, 3#32)
      else
        if r.val < 13 then
          if r.val < 12 then
            (1#32, 4#32)
          else
            (1#32, 5#32)
        else
          if r.val < 14 then
            (1#32, 6#32)
          else
            (1#32, 7#32)
  else
    if r.val < 23 then
      if r.val < 19 then
        if r.val < 17 then
          if r.val < 16 then
            (2#32, 0#32)
          else
            (2#32, 1#32)
        else
          if r.val < 18 then
            (2#32, 2#32)
          else
            (2#32, 3#32)
      else
        if r.val < 21 then
          if r.val < 20 then
            (2#32, 4#32)
          else
            (2#32, 5#32)
        else
          if r.val < 22 then
            (2#32, 6#32)
          else
            (2#32, 7#32)
    else
      if r.val < 27 then
        if r.val < 25 then
          if r.val < 24 then
            (3#32, 0#32)
          else
            (3#32, 1#32)
        else
          if r.val < 26 then
            (3#32, 2#32)
          else
            (3#32, 3#32)
      else
        if r.val < 29 then
          if r.val < 28 then
            (3#32, 4#32)
          else
            (3#32, 5#32)
        else
          if r.val < 30 then
            (3#32, 6#32)
          else
            (3#32, 7#32)
def k0_off7 (d0 : Dev nD) (c0_i32_568 : BitVec 32) : Fin 2 → Nat :=
  let c0_657 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_567 : BitVec 32 := 4#32
  let v713 : BitVec 32 := Scalar.addi v19 c4_i32_567
  let v714 : BitVec 32 := Scalar.subi v713 c0_i32_568
  let c4_i32_569 : BitVec 32 := 4#32
  let v715 : BitVec 32 := Scalar.remsi v714 c4_i32_569
  let c1024_i32_654 : BitVec 32 := 1024#32
  let v800 : BitVec 32 := Scalar.muli v715 c1024_i32_654
  let v802 : Index := Scalar.indexCast v800
  ![0, v802.toNat]
def k0_off8 (d0 : Dev nD) (c0_i32_568 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_567 : BitVec 32 := 4#32
  let v713 : BitVec 32 := Scalar.addi v19 c4_i32_567
  let v714 : BitVec 32 := Scalar.subi v713 c0_i32_568
  let c4_i32_569 : BitVec 32 := 4#32
  let v715 : BitVec 32 := Scalar.remsi v714 c4_i32_569
  let c1024_i32_654 : BitVec 32 := 1024#32
  let v800 : BitVec 32 := Scalar.muli v715 c1024_i32_654
  let v804 : Index := Scalar.indexCast v800
  let c0_658 : Index := 0#32
  ![v804.toNat, 0]
abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Loops.lean ====
/- The kernel's body as six counted loops.

   The printed body is a straight line of about three hundred memory operations. This module
   states the same line with its repeated stretches as loops over `Fin n` (`seqF`), and proves
   that the printed body is that program, so that each stretch is proved by one step lemma. -/
module

public import proofs.«01_k».proof.Proof.Gen.KernelIdeal.Skeleton

@[expose] public section

noncomputable section

namespace Cert.KernelIdeal

open Idealize.ShloMosaic Idealize.SL.Sem Cert.KernelIdeal.Gen

variable {F : FTy → Type} [FloatOps F]

/-- `f 0`, then `f 1`, …, then `f (n - 1)`. -/
def seqF {E : Type → Type} : (n : ℕ) → (Fin n → Prog E PUnit) → Prog E PUnit
  | 0, _ => .ret ⟨⟩
  | n + 1, f => (f 0).bind fun _ => seqF n fun i => f i.succ

/-- The devices the entry barrier signals, in order. -/
def sigDev : Fin 31 → Dev nD → ℕ :=
  ![k0_dev1, k0_dev2, k0_dev3, k0_dev4, k0_dev5, k0_dev6, k0_dev7, k0_dev8, k0_dev9, k0_dev10,
    k0_dev11, k0_dev12, k0_dev13, k0_dev14, k0_dev15, k0_dev16, k0_dev17, k0_dev18, k0_dev19,
    k0_dev20, k0_dev21, k0_dev22, k0_dev23, k0_dev24, k0_dev25, k0_dev26, k0_dev27, k0_dev28,
    k0_dev29, k0_dev30, k0_dev31]

/-- The devices the blocks are sent to, in order. -/
def sendDev : Fin 31 → Dev nD → ℕ :=
  ![k0_dev32, k0_dev33, k0_dev34, k0_dev35, k0_dev36, k0_dev37, k0_dev38, k0_dev39, k0_dev40,
    k0_dev41, k0_dev42, k0_dev43, k0_dev44, k0_dev45, k0_dev46, k0_dev47, k0_dev48, k0_dev49,
    k0_dev50, k0_dev51, k0_dev52, k0_dev53, k0_dev54, k0_dev55, k0_dev56, k0_dev57, k0_dev58,
    k0_dev59, k0_dev60, k0_dev61, k0_dev62]

theorem sigDev_lt : ∀ (r : Fin 31) (d : Dev nD), sigDev r d < nD := by decide +kernel
theorem sendDev_lt : ∀ (r : Fin 31) (d : Dev nD), sendDev r d < nD := by decide +kernel

/-- The device of the entry barrier's signal `r`. -/
def sigTo (r : Fin 31) (d : Dev nD) : Dev nD := ⟨sigDev r d, sigDev_lt r d⟩
/-- The device of transfer `r`. -/
def sendTo (r : Fin 31) (d : Dev nD) : Dev nD := ⟨sendDev r d, sendDev_lt r d⟩

/-- Rows `1024 * k` of the weights: the first row of chunk `k`. -/
def chunkRow : Fin 4 → ℕ := ![0, 1024, 2048, 3072]

theorem chunk_inb : ∀ (k : Fin 4) a, (![chunkRow k, 0] : Fin 2 → ℕ) a + S1024x2048.size a ≤ S4096x2048.size a := by
  decide
theorem chunk_packed : ∀ k : Fin 4, (Rect.unit (s := S4096x2048) ![chunkRow k, 0] S1024x2048.size (chunk_inb k)).PackedRows
    (EltTy.packing .fp8e4m3) := by decide
theorem sem4_inb : ∀ (k : Fin 4) a, (![k.val] : Fin 1 → ℕ) a + S1.size a ≤ S4.size a := by decide
theorem sem32_inb : ∀ (r : Fin 31) a, (![r.val + 1] : Fin 1 → ℕ) a + S1.size a ≤ S32.size a := by decide

/-- A stretch of the kernel: a program of the device that returns nothing. -/
abbrev Stretch (F : FTy → Type) := Prog (TpuEff nD τ sig (Elt F) Λ₀ .tc) PUnit

section Body
variable (arg0 : Memref sig .tc .vmem S4096x128 .f32) (harg0 : arg0.IsWhole)
  (arg1 : Memref sig .tc .hbm S4096x2048 .f32) (harg1 : arg1.IsWhole)
  (arg2 : Memref sig .tc .smem S1 .f32) (harg2 : arg2.IsWhole)
  (arg3 : Memref sig .tc .smem S1 .f32) (harg3 : arg3.IsWhole)
  (arg4 : Memref sig .tc .vmem S128x2048 .f32) (harg4 : arg4.IsWhole)
  (arg5 : Memref sig .tc .vmem S4096x128 .fp8e4m3) (harg5 : arg5.IsWhole)
  (arg6 : Memref sig .tc .vmem S128x4096 .fp8e4m3) (harg6 : arg6.IsWhole)
  (arg7 : Memref sig .tc .vmem S4096x2048 .f32) (harg7 : arg7.IsWhole)
  (arg8 : Memref sig .tc .vmem S4096x2048 .fp8e4m3) (harg8 : arg8.IsWhole)
  (arg9 : Memref sig .tc .vmem S128x2048 .f32) (harg9 : arg9.IsWhole)
  (arg10 arg11 : DmaSems sig S32) (arg12 : DmaSems sig S4) (arg13 : DmaSems sig S_)

/-- The cast of the device's columns of `x` to the transfer format. -/
def castX : Stretch F := do
  let v ← Prog.lift (.load arg0 (Rect.unit (s := S4096x128) ![0, 0] S4096x128.size inb_S4096x128_S4096x128_0_0).toLoadRect (View.loadsAt_vmem h_S4096x128))
  let _ ← Prog.lift (.load arg5 (Rect.unit (s := S4096x128) ![0, 0] S4096x128.size inb_S4096x128_S4096x128_0_0).toLoadRect (View.loadsAt_vmem h_S4096x128))
  Prog.lift (.store arg5 (Rect.unit (s := S4096x128) ![0, 0] S4096x128.size inb_S4096x128_S4096x128_0_0) (k0_pay1 (F := F) v) Finset.univ (View.stores_vmem h_S4096x128 (harg5.storeExact_slice rfl _ packedfp8e4m3_S4096x128_S4096x128_0_0) (fun _ => rfl)) (.inl rfl))

/-- One signal of the entry barrier. -/
def signal (d0 : Dev nD) (r : Fin 31) : Stretch F :=
  semSignalWord (sigTo r d0) (SemArray.scalar (sig.barrier 0 rfl) : Sems sig S_).sem 1#32

/-- Chunk `k` of the weights in HBM. -/
abbrev wSrc (k : Fin 4) : Memref sig .tc .hbm S1024x2048 .f32 :=
  arg1.slice (Rect.unit (s := S4096x2048) ![chunkRow k, 0] S1024x2048.size (chunk_inb k)) (fun _ => rfl)
/-- Chunk `k` of the staged weights. -/
abbrev wDst (k : Fin 4) : Memref sig .tc .vmem S1024x2048 .f32 :=
  arg7.slice (Rect.unit (s := S4096x2048) ![chunkRow k, 0] S1024x2048.size (chunk_inb k)) (fun _ => rfl)
/-- The semaphore of chunk `k`. -/
abbrev wSem (k : Fin 4) : DmaSem sig :=
  ((arg12.slice (Rect.unit (s := S4) ![k.val] S1.size (sem4_inb k))).squeeze S_ squeezes_S1_S_).sem

/-- The start of the copy of chunk `k` of the weights. -/
def startW (k : Fin 4) : Stretch F :=
  Prog.lift (.enqueueDma (wSrc arg1 k) (.here (wDst arg7 k)) (.dma (wSem arg12 k)) (View.wordExact_bits rfl) (View.wordExact_bits rfl) ⟨Or.inl rfl, trivial⟩)

/-- The rows of the cast block transfer `r` reads. -/
abbrev xSrc (d0 : Dev nD) (r : Fin 31) : Memref sig .tc .vmem S128x128 .fp8e4m3 :=
  arg5.slice (Rect.unit (s := S4096x128) (k0_off3 d0 (k0_off3_at r).1 (k0_off3_at r).2) S128x128.size (k0_off3_inb d0 r)) (fun _ => rfl)
/-- The columns of the gathered block device `d0` fills, on every device. -/
abbrev xDst (d0 : Dev nD) : Memref sig .tc .vmem S128x128 .fp8e4m3 :=
  arg6.slice (Rect.unit (s := S128x4096) (k0_off2 d0) S128x128.size (k0_off2_inb d0)) (fun _ => rfl)
/-- The send semaphore of transfer `r`. -/
abbrev sendSem (r : Fin 31) : DmaSem sig :=
  ((arg10.slice (Rect.unit (s := S32) ![r.val + 1] S1.size (sem32_inb r))).squeeze S_ squeezes_S1_S_).sem
/-- The receive semaphore device `d0`'s transfers complete, on every device. -/
abbrev recvSem (d0 : Dev nD) : DmaSem sig :=
  ((arg11.slice (Rect.unit (s := S32) (k0_off1 d0) S1.size (k0_off1_inb d0))).squeeze S_ squeezes_S1_S_).sem

/-- Transfer `r`. -/
def send (d0 : Dev nD) (r : Fin 31) : Stretch F :=
  Prog.lift (.enqueueDma (xSrc arg5 d0 r) (.remote (Dev.tc (sendTo r d0)) (xDst arg6 d0) (.dma (sendSem arg10 r))) (.dma (recvSem arg11 d0))
    (harg5.wordExact_slice rfl _ (k0_off3_wordsfp8e4m3 d0 r)) (harg6.wordExact_slice rfl _ (k0_off2_wordsfp8e4m3 d0)) ⟨⟨rfl, Or.inl rfl⟩, trivial⟩)

/-- The device's own rows of its cast block. -/
abbrev ownSrc (d0 : Dev nD) : Memref sig .tc .vmem S128x128 .fp8e4m3 :=
  arg5.slice (Rect.unit (s := S4096x128) (k0_off4 d0) S128x128.size (k0_off4_inb d0)) (fun _ => rfl)

/-- The start of the device's copy of its own rows. -/
def startOwn (d0 : Dev nD) : Stretch F :=
  Prog.lift (.enqueueDma (ownSrc arg5 d0) (.here (xDst arg6 d0)) (.dma arg13.sem) (harg5.wordExact_slice rfl _ (k0_off4_wordsfp8e4m3 d0)) (harg6.wordExact_slice rfl _ (k0_off2_wordsfp8e4m3 d0)) ⟨Or.inl rfl, trivial⟩)

/-- The wait for chunk `k` of the weights, and its cast. -/
def castW (k : Fin 4) : Stretch F := do
  Prog.lift (.waitDma2 (wSem arg12 k) (wSrc arg1 k) (wDst arg7 k) (View.wordExact_bits rfl) (View.wordExact_bits rfl))
  let v ← Prog.lift (.load arg7 (Rect.unit (s := S4096x2048) ![chunkRow k, 0] S1024x2048.size (chunk_inb k)).toLoadRect (View.loadsAt_vmem h_S1024x2048))
  let _ ← Prog.lift (.load arg8 (Rect.unit (s := S4096x2048) ![chunkRow k, 0] S1024x2048.size (chunk_inb k)).toLoadRect (View.loadsAt_vmem h_S1024x2048))
  Prog.lift (.store arg8 (Rect.unit (s := S4096x2048) ![chunkRow k, 0] S1024x2048.size (chunk_inb k)) (k0_pay4 (F := F) v) Finset.univ (View.stores_vmem h_S1024x2048 (harg8.storeExact_slice rfl _ (chunk_packed k)) (fun _ => rfl)) (.inl rfl))

/-- The first rows of the cast block: a wait's view, read for its size alone. -/
abbrev xAny : Memref sig .tc .vmem S128x128 .fp8e4m3 :=
  arg5.slice (Rect.unit (s := S4096x128) ![0, 0] S128x128.size inb_S4096x128_S128x128_0_0) (fun _ => rfl)
/-- The first columns of the gathered block: a wait's view, read for its size alone. -/
abbrev gAny : Memref sig .tc .vmem S128x128 .fp8e4m3 :=
  arg6.slice (Rect.unit (s := S128x4096) ![0, 0] S128x128.size inb_S128x4096_S128x128_0_0) (fun _ => rfl)

/-- The wait for the block of receipt `r`. -/
def recv (d0 : Dev nD) (r : Fin 31) : Stretch F :=
  Prog.lift (.waitDma2 ((arg11.slice (Rect.unit (s := S32) (k0_off5 d0 (k0_off5_at r).1 (k0_off5_at r).2) S1.size (k0_off5_inb d0 r))).squeeze S_ squeezes_S1_S_).sem
    (xAny arg5)
    (arg6.slice (Rect.unit (s := S128x4096) (k0_off6 d0 (k0_off6_at r).1 (k0_off6_at r).2) S128x128.size (k0_off6_inb d0 r)) (fun _ => rfl))
    (harg5.wordExact_slice rfl _ wordsfp8e4m3_S4096x128_S128x128_0_0) (harg6.wordExact_slice rfl _ (k0_off6_wordsfp8e4m3 d0 r)))

/-- The product of the group of eight blocks of phase `a`, added to the accumulator. -/
def accumulate (d0 : Dev nD) (a : Fin 4) : Stretch F := do
  let v ← Prog.lift (.load arg9 (Rect.unit (s := S128x2048) ![0, 0] S128x2048.size inb_S128x2048_S128x2048_0_0).toLoadRect (View.loadsAt_vmem h_S128x2048))
  let g ← Prog.lift (.load arg6 (Rect.unit (s := S128x4096) (k0_off7 d0 (BitVec.ofNat 32 a.val)) S128x1024.size (k0_off7_inb d0 a)).toLoadRect (View.loadsAt_vmem h_S128x1024))
  let w ← Prog.lift (.load arg8 (Rect.unit (s := S4096x2048) (k0_off8 d0 (BitVec.ofNat 32 a.val)) S1024x2048.size (k0_off8_inb d0 a)).toLoadRect (View.loadsAt_vmem h_S1024x2048))
  let _ ← Prog.lift (.load arg9 (Rect.unit (s := S128x2048) ![0, 0] S128x2048.size inb_S128x2048_S128x2048_0_0).toLoadRect (View.loadsAt_vmem h_S128x2048))
  Prog.lift (.store arg9 (Rect.unit (s := S128x2048) ![0, 0] S128x2048.size inb_S128x2048_S128x2048_0_0) (k0_pay10 (F := F) v g w) Finset.univ (View.stores_vmem_bits_univ h_S128x2048 rfl) (.inl rfl))

/-- The wait that transfer `r` has been read out. -/
def sent (r : Fin 31) : Stretch F :=
  Prog.lift (.waitDma2 (sendSem arg10 r) (gAny arg6) (xAny arg5)
    (harg6.wordExact_slice rfl _ wordsfp8e4m3_S128x4096_S128x128_0_0) (harg5.wordExact_slice rfl _ wordsfp8e4m3_S4096x128_S128x128_0_0))

/-- Phase `0`: its seven receipts, then its product. -/
def phase0 (d0 : Dev nD) : Stretch F :=
  (seqF 7 fun b => recv arg5 harg5 arg6 harg6 arg11 d0 ⟨b.val, by omega⟩).bind fun _ =>
  accumulate arg6 arg8 arg9 d0 0
/-- Phase `a + 1`: its eight receipts, then its product. -/
def phase (d0 : Dev nD) (a : Fin 3) : Stretch F :=
  (seqF 8 fun b => recv arg5 harg5 arg6 harg6 arg11 d0 ⟨7 + 8 * a.val + b.val, by omega⟩).bind fun _ =>
  accumulate arg6 arg8 arg9 d0 a.succ

/-- The body, with its loops. -/
def loopBody : Stretch F := do
  let d0 ← Prog.lift .deviceId
  castX arg0 arg5 harg5
  seqF 31 (signal d0)
  seqF 4 (startW arg1 arg7 arg12)
  semWaitWord (SemArray.scalar (sig.barrier 0 rfl) : Sems sig S_).sem 31#32
  seqF 31 (send arg5 harg5 arg6 harg6 arg10 arg11 d0)
  startOwn arg5 harg5 arg6 harg6 arg13 d0
  seqF 4 (castW arg1 arg7 arg8 harg8 arg12)
  Prog.lift (.waitDma2 arg13.sem (ownSrc arg5 d0) (xDst arg6 d0) (harg5.wordExact_slice rfl _ (k0_off4_wordsfp8e4m3 d0)) (harg6.wordExact_slice rfl _ (k0_off2_wordsfp8e4m3 d0)))
  let sx ← smemLoad arg2 (Rect.unit (s := S1) ![0] S1.size inb_S1_S1_0) numel1_S1 rfl
  let sy ← smemLoad arg3 (Rect.unit (s := S1) ![0] S1.size inb_S1_S1_0) numel1_S1 rfl
  let _ ← Prog.lift (.load arg9 (Rect.unit (s := S128x2048) ![0, 0] S128x2048.size inb_S128x2048_S128x2048_0_0).toLoadRect (View.loadsAt_vmem h_S128x2048))
  Prog.lift (.store arg9 (Rect.unit (s := S128x2048) ![0, 0] S128x2048.size inb_S128x2048_S128x2048_0_0) (k0_pay9 (F := F)) Finset.univ (View.stores_vmem_bits_univ h_S128x2048 rfl) (.inl rfl))
  phase0 arg5 harg5 arg6 harg6 arg8 arg9 arg11 d0
  seqF 3 (phase arg5 harg5 arg6 harg6 arg8 arg9 arg11 d0)
  let v ← Prog.lift (.load arg9 (Rect.unit (s := S128x2048) ![0, 0] S128x2048.size inb_S128x2048_S128x2048_0_0).toLoadRect (View.loadsAt_vmem h_S128x2048))
  let _ ← Prog.lift (.load arg4 (Rect.unit (s := S128x2048) ![0, 0] S128x2048.size inb_S128x2048_S128x2048_0_0).toLoadRect (View.loadsAt_vmem h_S128x2048))
  Prog.lift (.store arg4 (Rect.unit (s := S128x2048) ![0, 0] S128x2048.size inb_S128x2048_S128x2048_0_0) (k0_pay15 (k0_pay8 sx sy) v) Finset.univ (View.stores_vmem_bits_univ h_S128x2048 rfl) (.inl rfl))
  seqF 31 (sent arg5 harg5 arg6 harg6 arg10)

set_option maxHeartbeats 8000000 in
set_option maxRecDepth 20000 in
/-- The printed body is its looped form. -/
theorem cc0_body_eq_loopBody :
    cc0_body (F := F) arg0 harg0 arg1 harg1 arg2 harg2 arg3 harg3 arg4 harg4 arg5 harg5 arg6 harg6 arg7 harg7 arg8 harg8 arg9 harg9 arg10 arg11 arg12 arg13
      = loopBody arg0 arg1 arg2 arg3 arg4 arg5 harg5 arg6 harg6 arg7 arg8 harg8 arg9 arg10 arg11 arg12 arg13 := by
  exact rfl

end Body

end Cert.KernelIdeal

end
-- ==== Proof.Geometry.lean ====
/- How the kernel's buffers are cut, and who sends to whom.

   Each device's cast block of `x` has one row block per device and its gathered block one column
   block per device; transfer by transfer they are handed over in those blocks. The staged weights
   are copied in four chunks of rows. This module shows that the transfers' rectangles are those
   blocks, and that the signals, the sends and the receipts each go once round the other devices. -/
module

public import proofs.«01_k».proof.Proof.Loops
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal

open Idealize.ShloMosaic Idealize.ShloMosaic.TcCoe Idealize.SL Idealize.SL.Sem Cert.KernelIdeal.Gen

variable {F : FTy → Type} [FloatOps F]

/-! ## The buffers -/

abbrev xM : Memref sig .tc .vmem S4096x128 .f32 := Memref.whole cc0_stg0_0
abbrev hM : Memref sig .tc .hbm S4096x2048 .f32 := Memref.whole main_arg1
abbrev sxM : Memref sig .tc .smem S1 .f32 := Memref.whole cc0_stg1_0
abbrev syM : Memref sig .tc .smem S1 .f32 := Memref.whole cc0_stg2_0
abbrev oM : Memref sig .tc .vmem S128x2048 .f32 := Memref.whole cc0_stg3_0
abbrev bM : Memref sig .tc .vmem S4096x128 .fp8e4m3 := Memref.whole cc0_scratch0
abbrev gM : Memref sig .tc .vmem S128x4096 .fp8e4m3 := Memref.whole cc0_scratch1
abbrev wM : Memref sig .tc .vmem S4096x2048 .f32 := Memref.whole cc0_scratch2
abbrev vM : Memref sig .tc .vmem S4096x2048 .fp8e4m3 := Memref.whole cc0_scratch3
abbrev aM : Memref sig .tc .vmem S128x2048 .f32 := Memref.whole cc0_scratch4

/-! ## Blocks -/

/-- The device whose row block of a cast block an element is in. -/
def rowDev (i : S4096x128.Idx) : Dev nD := ⟨(i 0).val / 128, by
  have h : (i 0).val < 4096 := (i 0).isLt
  show _ < 32; omega⟩
/-- The device whose column block of a gathered block an element is in. -/
def colDev (i : S128x4096.Idx) : Dev nD := ⟨(i 1).val / 128, by
  have h : (i 1).val < 4096 := (i 1).isLt
  show _ < 32; omega⟩
/-- The chunk of rows of the weights an element is in. -/
def chunkOf (i : S4096x2048.Idx) : Fin 4 := ⟨(i 0).val / 1024, by
  have h : (i 0).val < 4096 := (i 0).isLt
  omega⟩

/-- Row block `p` of a cast block. -/
def rowSet (p : Dev nD) : Finset S4096x128.Idx := Finset.univ.filter fun i => rowDev i = p
/-- Column block `s` of a gathered block. -/
def colSet (s : Dev nD) : Finset S128x4096.Idx := Finset.univ.filter fun i => colDev i = s
/-- The column blocks of a set of devices. -/
def colsOf (T : Finset (Dev nD)) : Finset S128x4096.Idx := Finset.univ.filter fun i => colDev i ∈ T
/-- Chunk `k` of the weights. -/
def chunkSet (k : Fin 4) : Finset S4096x2048.Idx := Finset.univ.filter fun i => chunkOf i = k

theorem mem_rowSet {p : Dev nD} {i : S4096x128.Idx} : i ∈ rowSet p ↔ rowDev i = p := by simp [rowSet]
theorem mem_colSet {p : Dev nD} {i : S128x4096.Idx} : i ∈ colSet p ↔ colDev i = p := by simp [colSet]
theorem mem_colsOf {T : Finset (Dev nD)} {i : S128x4096.Idx} : i ∈ colsOf T ↔ colDev i ∈ T := by simp [colsOf]
theorem mem_chunkSet {k : Fin 4} {i : S4096x2048.Idx} : i ∈ chunkSet k ↔ chunkOf i = k := by simp [chunkSet]

theorem colsOf_singleton (s : Dev nD) : colsOf {s} = colSet s := by
  ext i; rw [mem_colsOf, mem_colSet, Finset.mem_singleton]
theorem colsOf_insert (s : Dev nD) (T : Finset (Dev nD)) : colsOf (insert s T) = colSet s ∪ colsOf T := by
  ext i; rw [Finset.mem_union, mem_colsOf, mem_colsOf, mem_colSet, Finset.mem_insert]
theorem colSet_disjoint {s : Dev nD} {T : Finset (Dev nD)} (h : s ∉ T) : Disjoint (colSet s) (colsOf T) :=
  Finset.disjoint_left.mpr fun i hi hT => h (mem_colSet.mp hi ▸ mem_colsOf.mp hT)
theorem colsOf_univ : colsOf Finset.univ = Finset.univ := by
  ext i; simp [mem_colsOf]

theorem rowSet_disjoint (p q : Dev nD) (h : p ≠ q) : Disjoint (rowSet p) (rowSet q) :=
  Finset.disjoint_left.mpr fun i hp hq => h ((mem_rowSet.mp hp).symm.trans (mem_rowSet.mp hq))
theorem colSet_disjoint' (p q : Dev nD) (h : p ≠ q) : Disjoint (colSet p) (colSet q) :=
  Finset.disjoint_left.mpr fun i hp hq => h ((mem_colSet.mp hp).symm.trans (mem_colSet.mp hq))
theorem chunkSet_disjoint (p q : Fin 4) (h : p ≠ q) : Disjoint (chunkSet p) (chunkSet q) :=
  Finset.disjoint_left.mpr fun i hp hq => h ((mem_chunkSet.mp hp).symm.trans (mem_chunkSet.mp hq))
theorem rowSet_cover : Finset.univ.biUnion rowSet = Finset.univ := by
  ext i; simp [mem_rowSet]
theorem colSet_cover : Finset.univ.biUnion colSet = Finset.univ := by
  ext i; simp [mem_colSet]
theorem chunkSet_cover : Finset.univ.biUnion chunkSet = Finset.univ := by
  ext i; simp [mem_chunkSet]

/-- The elements of a block of 128 rows of a cast block. -/
theorem rows_unit (off : Fin 2 → ℕ) (p : Dev nD) (h : off = ![128 * p.val, 0]) (inb) :
    (Rect.unit (s := S4096x128) off S128x128.size inb).set = rowSet p := by
  subst h
  ext i
  have h1 : (i 1).val < 128 := (i 1).isLt
  rw [Rect.mem_set_unit, mem_rowSet, Fin.forall_fin_two]
  show (128 * p.val ≤ (i 0).val ∧ (i 0).val < 128 * p.val + 128) ∧ (0 ≤ (i 1).val ∧ (i 1).val < 0 + 128) ↔ _
  rw [rowDev, Fin.ext_iff]
  constructor
  · rintro ⟨⟨_, _⟩, -⟩; show (i 0).val / 128 = _; omega
  · intro h; have h : (i 0).val / 128 = p.val := h; omega
/-- The elements of a block of 128 columns of a gathered block. -/
theorem cols_unit (off : Fin 2 → ℕ) (p : Dev nD) (h : off = ![0, 128 * p.val]) (inb) :
    (Rect.unit (s := S128x4096) off S128x128.size inb).set = colSet p := by
  subst h
  ext i
  have h1 : (i 0).val < 128 := (i 0).isLt
  rw [Rect.mem_set_unit, mem_colSet, Fin.forall_fin_two]
  show (0 ≤ (i 0).val ∧ (i 0).val < 0 + 128) ∧ (128 * p.val ≤ (i 1).val ∧ (i 1).val < 128 * p.val + 128) ↔ _
  rw [colDev, Fin.ext_iff]
  constructor
  · rintro ⟨-, ⟨_, _⟩⟩; show (i 1).val / 128 = _; omega
  · intro h; have h : (i 1).val / 128 = p.val := h; omega
theorem chunkRow_eq (k : Fin 4) : chunkRow k = 1024 * k.val := by fin_cases k <;> rfl
/-- The elements of a chunk of the weights. -/
theorem chunk_unit (k : Fin 4) (inb) :
    (Rect.unit (s := S4096x2048) ![chunkRow k, 0] S1024x2048.size inb).set = chunkSet k := by
  ext i
  have h1 : (i 1).val < 2048 := (i 1).isLt
  rw [Rect.mem_set_unit, mem_chunkSet, Fin.forall_fin_two]
  show (chunkRow k ≤ (i 0).val ∧ (i 0).val < chunkRow k + 1024) ∧ (0 ≤ (i 1).val ∧ (i 1).val < 0 + 2048) ↔ _
  rw [chunkOf, Fin.ext_iff, chunkRow_eq]
  constructor
  · rintro ⟨⟨_, _⟩, -⟩; show (i 0).val / 1024 = _; omega
  · intro h; have h : (i 0).val / 1024 = k.val := h; omega

/-! ## The transfers' geometry -/

/-- The device receipt `r` of device `c` comes from. -/
def recvFrom (r : Fin 31) (c : Dev nD) : Dev nD := ⟨k0_off5 c (k0_off5_at r).1 (k0_off5_at r).2 0, by
  have h := k0_off5_inb c r 0
  exact Nat.lt_of_succ_le h⟩

theorem off3_eq : ∀ (c : Dev nD) (r : Fin 31), k0_off3 c (k0_off3_at r).1 (k0_off3_at r).2 = ![128 * (sendTo r c).val, 0] := by
  decide +kernel
theorem off6_eq : ∀ (c : Dev nD) (r : Fin 31), k0_off6 c (k0_off6_at r).1 (k0_off6_at r).2 = ![0, 128 * (recvFrom r c).val] := by
  decide +kernel
theorem off5_eq (c : Dev nD) (r : Fin 31) : k0_off5 c (k0_off5_at r).1 (k0_off5_at r).2 = k0_off1 (recvFrom r c) := by
  rw [k0_off1_eq]; funext a; fin_cases a; rfl

/-- The devices other than `c`. -/
abbrev others (c : Dev nD) : Finset (Dev nD) := Finset.univ.erase c

theorem sigTo_inj : ∀ (c : Dev nD) (r r' : Fin 31), sigTo r c = sigTo r' c → r = r' := by decide +kernel
theorem sendTo_inj : ∀ (c : Dev nD) (r r' : Fin 31), sendTo r c = sendTo r' c → r = r' := by decide +kernel
theorem recvFrom_inj : ∀ (c : Dev nD) (r r' : Fin 31), recvFrom r c = recvFrom r' c → r = r' := by decide +kernel
theorem sigTo_ne : ∀ (c : Dev nD) (r : Fin 31), sigTo r c ≠ c := by decide +kernel
theorem sendTo_ne : ∀ (c : Dev nD) (r : Fin 31), sendTo r c ≠ c := by decide +kernel
theorem recvFrom_ne : ∀ (c : Dev nD) (r : Fin 31), recvFrom r c ≠ c := by decide +kernel

/-- A tour of the other devices: 31 distinct devices, none of them `c`, are all the others. -/
theorem tour (c : Dev nD) (σ : Fin 31 → Dev nD) (hi : Function.Injective σ) (hne : ∀ r, σ r ≠ c) :
    others c = Finset.univ.map ⟨σ, hi⟩ := by
  symm
  apply Finset.eq_of_subset_of_card_le
  · intro x hx
    obtain ⟨r, -, rfl⟩ := Finset.mem_map.mp hx
    exact Finset.mem_erase.mpr ⟨hne r, Finset.mem_univ _⟩
  · rw [Finset.card_map, Finset.card_erase_of_mem (Finset.mem_univ c)]
    decide

/-- The devices whose blocks device `c` holds after its first `n` receipts. -/
def heldBy (c : Dev nD) (n : ℕ) : Finset (Dev nD) := Finset.univ.filter fun s => s = c ∨ ∃ r : Fin 31, r.val < n ∧ recvFrom r c = s

theorem heldBy_zero (c : Dev nD) : heldBy c 0 = {c} := by
  ext s; simp [heldBy]
theorem heldBy_succ (c : Dev nD) (r : Fin 31) : heldBy c (r.val + 1) = insert (recvFrom r c) (heldBy c r.val) := by
  ext s
  simp only [heldBy, Finset.mem_filter, Finset.mem_univ, true_and, Finset.mem_insert]
  constructor
  · rintro (h | ⟨q, hq, rfl⟩)
    · exact .inr (.inl h)
    · rcases Nat.lt_succ_iff_lt_or_eq.mp hq with h | h
      · exact .inr (.inr ⟨q, h, rfl⟩)
      · exact .inl (by rw [Fin.ext h])
  · rintro (rfl | h | ⟨q, hq, rfl⟩)
    · exact .inr ⟨r, Nat.lt_succ_self _, rfl⟩
    · exact .inl h
    · exact .inr ⟨q, Nat.lt_succ_of_lt hq, rfl⟩
theorem recvFrom_not_held (c : Dev nD) (r : Fin 31) : recvFrom r c ∉ heldBy c r.val := by
  simp only [heldBy, Finset.mem_filter, Finset.mem_univ, true_and, not_or, not_exists, not_and]
  exact ⟨recvFrom_ne c r, fun q hq h => absurd (recvFrom_inj c q r h) (fun e => by subst e; exact Nat.lt_irrefl _ hq)⟩
theorem heldBy_all (c : Dev nD) : heldBy c 31 = Finset.univ := by
  revert c; decide +kernel

/-- The group of eight devices whose blocks phase `a` of device `c` multiplies. -/
def groupAt (c : Dev nD) (a : Fin 4) : Fin 4 := ⟨(c.val / 8 + 4 - a.val) % 4, Nat.mod_lt _ (by decide)⟩
theorem off7_eq : ∀ (c : Dev nD) (a : Fin 4), k0_off7 c (BitVec.ofNat 32 a.val) = ![0, 1024 * (groupAt c a).val] := by decide +kernel
theorem off8_eq : ∀ (c : Dev nD) (a : Fin 4), k0_off8 c (BitVec.ofNat 32 a.val) = ![1024 * (groupAt c a).val, 0] := by decide +kernel
/-- By phase `a` the blocks of its group have arrived. -/
theorem group_held : ∀ (c : Dev nD) (a : Fin 4) (s : Dev nD), s.val / 8 = (groupAt c a).val → s ∈ heldBy c (7 + 8 * a.val) := by
  decide +kernel
/-- The elements phase `a` loads are of blocks that have arrived. -/
theorem group_subset (c : Dev nD) (a : Fin 4) (inb) :
    (Rect.unit (s := S128x4096) (k0_off7 c (BitVec.ofNat 32 a.val)) S128x1024.size inb).set ⊆ colsOf (heldBy c (7 + 8 * a.val)) := by
  intro i hi
  rw [Rect.mem_set_unit, off7_eq] at hi
  have h := hi 1
  have h : 1024 * (groupAt c a).val ≤ (i 1).val ∧ (i 1).val < 1024 * (groupAt c a).val + 1024 := h
  refine mem_colsOf.mpr (group_held c a _ ?_)
  show (i 1).val / 128 / 8 = _
  omega

end Cert.KernelIdeal

end
-- ==== Proof.Contents.lean ====
/- What the kernel's buffers hold.

   This module names the contents of every buffer of every device and shows that each transfer
   and each store leaves its part of a buffer at the named contents. -/
module

public import proofs.«01_k».proof.Proof.Geometry

@[expose] public section

noncomputable section

namespace Cert.KernelIdeal

open Idealize.ShloMosaic Idealize.ShloMosaic.TcCoe Idealize.SL Idealize.SL.Sem Cert.KernelIdeal.Gen

variable {F : FTy → Type} [FloatOps F]

/-! ## The contents -/

variable (m : (ℓ : Loc nD τ sig) → Buf (Elt F) ℓ)

/-- Device `c`'s columns of `x`, staged. -/
def xAt (c : Dev nD) : (cc0_stg0_0 : Ref sig .tc).ty.Contents (Elt F) :=
  (win0_0.blk (0 : Fin 1)).view.read (Elt F) (m ((c : Thread nD τ).loc main_arg0))
/-- The two scales, staged. -/
def sxAt (c : Dev nD) : (cc0_stg1_0 : Ref sig .tc).ty.Contents (Elt F) :=
  (win0_1.blk (0 : Fin 1)).view.read (Elt F) (m ((c : Thread nD τ).loc main_arg2))
def syAt (c : Dev nD) : (cc0_stg2_0 : Ref sig .tc).ty.Contents (Elt F) :=
  (win0_2.blk (0 : Fin 1)).view.read (Elt F) (m ((c : Thread nD τ).loc main_arg3))
/-- The weights in device `c`'s HBM. -/
def wAt (c : Dev nD) : (main_arg1 : Ref sig .tc).ty.Contents (Elt F) := m ((c : Thread nD τ).loc main_arg1)

/-- Device `c`'s cast block. -/
def castAt (c : Dev nD) : (cc0_scratch0 : Ref sig .tc).ty.Contents (Elt F) := k0_pay1 (xAt m c)

/-- Element `i` of device `c`'s gathered block, as an element of its owner's cast block. -/
def rowOf (c : Dev nD) (i : S128x4096.Idx) : S4096x128.Idx := Fin.cons
  (⟨128 * c.val + (i 0).val, by
    have h : (i 0).val < 128 := (i 0).isLt
    have hc : c.val < 32 := c.isLt
    show _ < 4096; omega⟩ : Fin 4096)
  (Fin.cons (⟨(i 1).val % 128, Nat.mod_lt _ (by decide)⟩ : Fin 128) fun a => a.elim0)

/-- Device `c`'s gathered block: column block `s` holds row block `c` of device `s`'s cast block. -/
def gathAt (c : Dev nD) : (cc0_scratch1 : Ref sig .tc).ty.Contents (Elt F) := fun i => castAt m (colDev i) (rowOf c i)

/-- Chunk `k` of the staged weights. -/
def chunkAt (c : Dev nD) (k : Fin 4) : Vec F S1024x2048 .f32 :=
  (wM.view.slice (Rect.unit (s := S4096x2048) ![chunkRow k, 0] S1024x2048.size (chunk_inb k))).read (Elt F) (wAt m c)

/-- An element of the weights within its chunk. -/
def inChunk (i : S4096x2048.Idx) : S1024x2048.Idx := Fin.cons
  (⟨(i 0).val % 1024, Nat.mod_lt _ (by decide)⟩ : Fin 1024)
  (Fin.cons (⟨(i 1).val, (i 1).isLt⟩ : Fin 2048) fun a => a.elim0)

/-- The cast weights, chunk by chunk. -/
def wcastAt (c : Dev nD) : (cc0_scratch3 : Ref sig .tc).ty.Contents (Elt F) := fun i => k0_pay4 (chunkAt m c (chunkOf i)) (inChunk i)

/-- What phase `a` of device `c` multiplies: a group's blocks … -/
def gLoad (c : Dev nD) (a : Fin 4) : Vec F S128x1024 .fp8e4m3 :=
  gM.view.readAt (Elt F) (Rect.unit (s := S128x4096) (k0_off7 c (BitVec.ofNat 32 a.val)) S128x1024.size (k0_off7_inb c a)).toLoadRect (gathAt m c)
/-- … and their rows of the weights. -/
def wLoad (c : Dev nD) (a : Fin 4) : Vec F S1024x2048 .fp8e4m3 :=
  vM.view.readAt (Elt F) (Rect.unit (s := S4096x2048) (k0_off8 c (BitVec.ofNat 32 a.val)) S1024x2048.size (k0_off8_inb c a)).toLoadRect (wcastAt m c)

/-- The accumulator after `n` phases. -/
def accAt (c : Dev nD) : ℕ → (cc0_scratch4 : Ref sig .tc).ty.Contents (Elt F)
  | 0 => k0_pay9
  | n + 1 => if h : n < 4 then k0_pay10 (accAt c n) (gLoad m c ⟨n, h⟩) (wLoad m c ⟨n, h⟩) else accAt c n

theorem accAt_succ (c : Dev nD) (a : Fin 4) : accAt m c (a.val + 1) = k0_pay10 (accAt m c a.val) (gLoad m c a) (wLoad m c a) := by
  rw [accAt, dif_pos a.isLt]

/-- The two scales, as the kernel reads them. -/
def sxVal (c : Dev nD) : Elt F .f32 :=
  sxM.view.readAt (Elt F) (Rect.unit (s := S1) ![0] S1.size inb_S1_S1_0).toLoadRect (sxAt m c) (Shape.Idx.first (numel1_S1.symm ▸ Nat.one_pos))
def syVal (c : Dev nD) : Elt F .f32 :=
  syM.view.readAt (Elt F) (Rect.unit (s := S1) ![0] S1.size inb_S1_S1_0).toLoadRect (syAt m c) (Shape.Idx.first (numel1_S1.symm ▸ Nat.one_pos))

/-- The result on device `c`. -/
def outAt (c : Dev nD) : (cc0_stg3_0 : Ref sig .tc).ty.Contents (Elt F) :=
  k0_pay15 (k0_pay8 (sxVal m c) (syVal m c)) (accAt m c 4)

/-! ## What the transfers carry -/

/-- A transfer to device `p` carries the sender's row block `p` into `p`'s column block of the sender. -/
theorem carried (c p : Dev nD) (off off' : Fin 2 → ℕ) (h : off = ![128 * p.val, 0]) (h' : off' = ![0, 128 * c.val]) (inb inb')
    (fd : (cc0_scratch1 : Ref sig .tc).ty.Contents (Elt F)) (i : S128x4096.Idx) (hi : i ∈ colSet c) :
    (gM.slice (Rect.unit (s := S128x4096) off' S128x128.size inb') (fun _ => rfl)).view.write (Elt F) fd
      ((bM.slice (Rect.unit (s := S4096x128) off S128x128.size inb) (fun _ => rfl)).view.read (Elt F) (castAt m c)) Finset.univ i = gathAt m p i := by
  rw [← cols_unit off' c h' inb', ← Rect.map_emb_univ] at hi
  obtain ⟨z, -, rfl⟩ := Finset.mem_map.mp hi
  refine (View.write_emb_of_mem (v := (gM.slice (Rect.unit (s := S128x4096) off' S128x128.size inb') (fun _ => rfl)).view) fd _ (Finset.mem_univ z)).trans ?_
  subst h h'
  have h0 : (z 0).val < 128 := (z 0).isLt
  have h1 : (z 1).val < 128 := (z 1).isLt
  have hc : colDev ((Rect.unit (s := S128x4096) ![0, 128 * c.val] S128x128.size inb').emb z) = c := by
    apply Fin.ext
    show (128 * c.val + 1 * (z 1).val) / 128 = c.val
    omega
  show castAt m c ((Rect.unit (s := S4096x128) ![128 * p.val, 0] S128x128.size inb).emb z) = castAt m _ _
  rw [hc]
  congr 1
  funext a
  apply Fin.ext
  fin_cases a
  · show 128 * p.val + 1 * (z 0).val = 128 * p.val + (0 + 1 * (z 0).val); omega
  · show 0 + 1 * (z 1).val = (128 * c.val + 1 * (z 1).val) % 128; omega

/-- A chunk's copy carries its rows. -/
theorem carriedW (c : Dev nD) (k : Fin 4) (fd : (cc0_scratch2 : Ref sig .tc).ty.Contents (Elt F)) (i : S4096x2048.Idx) (hi : i ∈ chunkSet k) :
    (wDst wM k).view.write (Elt F) fd ((wSrc hM k).view.read (Elt F) (wAt m c)) Finset.univ i = wAt m c i := by
  rw [← chunk_unit k (chunk_inb k), ← Rect.map_emb_univ] at hi
  obtain ⟨z, -, rfl⟩ := Finset.mem_map.mp hi
  exact View.write_emb_of_mem (v := (wDst wM k).view) fd _ (Finset.mem_univ z)

/-- The store of a chunk's cast, after those before it. -/
theorem stored (c : Dev nD) (k : Fin 4) (f : (cc0_scratch3 : Ref sig .tc).ty.Contents (Elt F))
    (hf : ∀ i, (chunkOf i).val < k.val → f i = wcastAt m c i) (i : S4096x2048.Idx) (hi : (chunkOf i).val < k.val + 1) :
    ((vM.access (Rect.unit (s := S4096x2048) ![chunkRow k, 0] S1024x2048.size (chunk_inb k)) : View sig .tc _ _ _)).write (Elt F) f (k0_pay4 (chunkAt m c k)) Finset.univ i
      = wcastAt m c i := by
  by_cases hk : chunkOf i = k
  · have hi' := mem_chunkSet.mpr hk
    rw [← chunk_unit k (chunk_inb k), ← Rect.map_emb_univ] at hi'
    obtain ⟨z, -, rfl⟩ := Finset.mem_map.mp hi'
    refine (View.write_emb_of_mem (v := (vM.access (Rect.unit (s := S4096x2048) ![chunkRow k, 0] S1024x2048.size (chunk_inb k)))) f _ (Finset.mem_univ z)).trans ?_
    show k0_pay4 (chunkAt m c k) z = k0_pay4 _ _
    rw [hk]
    congr 1
    have h0 : (z 0).val < 1024 := (z 0).isLt
    funext a
    apply Fin.ext
    fin_cases a
    · show (z 0).val = (chunkRow k + 1 * (z 0).val) % 1024; have hr := chunkRow_eq k; omega
    · show (z 1).val = 0 + 1 * (z 1).val; omega
  · rw [View.write_of_not_mem, hf]
    · have : (chunkOf i).val ≠ k.val := fun h => hk (Fin.ext h)
      omega
    · intro h
      apply hk
      have h : i ∈ (Rect.unit (s := S4096x2048) ![chunkRow k, 0] S1024x2048.size (chunk_inb k)).set := by
        rw [← Rect.map_emb_univ]; exact h
      rw [chunk_unit k] at h
      exact mem_chunkSet.mp h

end Cert.KernelIdeal

end
-- ==== Proof.Protocol.lean ====
/- The protocol of the all-to-all.

   Every device has a barrier cell, to which each other device contributes one unit together with
   the column block of its gathered block that the owner is to fill; a receive cell per other
   device, to which that device's transfer contributes the filled column block; a send cell per
   transfer, which gives the transferred row block back; and a cell per copy of its own. Each cell
   is used in one round. This module states that as a schedule of the rounds library, with the
   amounts the devices owe and the order in which they may wait. -/
module

public import proofs.«01_k».proof.Proof.Contents

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state -/

/-- The rounds of the protocol's cells, a duty named by a device. -/
abbrev UB : Type := URounds (GSem nD τ sig) (Dev nD)
/-- The ghost state: the pipeline's and the protocol's. -/
abbrev UU : Type := UR sig nD τ × UB

/-- The assertions of this proof. -/
abbrev SP (F : FTy → Type) : Type := sProp (MT nD τ sig Unit (Elt F) ℕ UU ℕ)

abbrev EP : Emb (UR sig nD τ) (MT nD τ sig Unit (Elt F) ℕ UU ℕ) := embL
abbrev ER : Emb UB (MT nD τ sig Unit (Elt F) ℕ UU ℕ) := embR

/-! ## The cells -/

/-- The cells of a device: its barrier; the send semaphore no transfer uses; its own rows' copy; a
    send cell per transfer; a receive cell per device; a cell per chunk of the weights. -/
abbrev Kind : Type := Unit ⊕ (Unit ⊕ (Unit ⊕ (Fin 31 ⊕ (Dev nD ⊕ Fin 4))))

abbrev kBar : Kind := .inl ()
abbrev kSpare : Kind := .inr (.inl ())
abbrev kOwn : Kind := .inr (.inr (.inl ()))
abbrev kSend (r : Fin 31) : Kind := .inr (.inr (.inr (.inl r)))
abbrev kRecv (s : Dev nD) : Kind := .inr (.inr (.inr (.inr (.inl s))))
abbrev kChunk (k : Fin 4) : Kind := .inr (.inr (.inr (.inr (.inr k))))

/-- The barrier semaphore. -/
abbrev barS : Sem sig := (SemArray.scalar (sig.barrier 0 rfl) : Sems sig S_).sem

/-- The semaphore of a cell. -/
def semOf : Kind → SemLoc sig
  | .inl _ => .reg barS
  | .inr (.inl _) => .dma ⟨4, by decide⟩
  | .inr (.inr (.inl _)) => .dma cc0_scratch8.sem
  | .inr (.inr (.inr (.inl r))) => .dma (sendSem cc0_scratch5 r)
  | .inr (.inr (.inr (.inr (.inl s)))) => .dma (recvSem cc0_scratch6 s)
  | .inr (.inr (.inr (.inr (.inr k)))) => .dma (wSem cc0_scratch7 k)

/-- The cell a semaphore is: none for the staging semaphores. -/
def kindOf : SemLoc sig → Option Kind
  | .reg _ => some kBar
  | .dma q =>
    if q.val < 4 then none
    else if q.val = 4 then some kSpare
    else if h : q.val < 36 then some (kSend ⟨(q.val - 5) % 31, Nat.mod_lt _ (by decide)⟩)
    else if h : q.val < 68 then some (kRecv ⟨(q.val - 36) % 32, Nat.mod_lt _ (by decide)⟩)
    else if h : q.val < 72 then some (kChunk ⟨(q.val - 68) % 4, Nat.mod_lt _ (by decide)⟩)
    else some kOwn

theorem kindOf_semOf : ∀ k : Kind, kindOf (semOf k) = some k := by
  rintro (_ | _ | _ | r | s | k)
  · rfl
  · rfl
  · rfl
  · fin_cases r <;> rfl
  · fin_cases s <;> rfl
  · fin_cases k <;> rfl

theorem semOf_injective : Function.Injective semOf := fun k k' h => by
  have := (kindOf_semOf k).symm.trans ((congrArg kindOf h).trans (kindOf_semOf k'))
  exact Option.some.inj this

/-- Cell `k` of device `c`. -/
def cellAt (c : Dev nD) (k : Kind) : GSem nD τ sig := ((c : Thread nD τ), semOf k)

theorem cellAt_inj {c c' : Dev nD} {k k' : Kind} (h : cellAt c k = cellAt c' k') : c = c' ∧ k = k' :=
  ⟨congrArg (fun g : GSem nD τ sig => g.1.1) h, semOf_injective (congrArg Prod.snd h)⟩

theorem cell_injective : Function.Injective (fun ck : Dev nD × Kind => cellAt ck.1 ck.2) := fun _ _ h =>
  Prod.ext (cellAt_inj h).1 (cellAt_inj h).2

/-! ## The payloads -/

/-- The units of a transfer of a block. -/
def NX : ℕ := (xDst gM 0).view.dmaCredit
/-- The units of a copy of a chunk. -/
def NW : ℕ := (wDst wM 0).view.dmaCredit

theorem NX_pos : 0 < NX := View.dmaCredit_pos (xDst gM 0).view (by decide : 0 < S128x128.numel)
theorem NW_pos : 0 < NW := View.dmaCredit_pos (wDst wM 0).view (by decide : 0 < S1024x2048.numel)

variable (m : (ℓ : Loc nD τ sig) → Buf (Elt F) ℓ)

/-- Column block `s` of device `d`'s gathered block, at contents `f`. -/
def colPts (d s : Dev nD) (f : (cc0_scratch1 : Ref sig .tc).ty.Contents (Elt F)) : SP F :=
  ((d : Thread nD τ).loc cc0_scratch1) ↦[colSet s]{fullShare} f
/-- Row block `p` of device `c`'s cast block. -/
def rowPts (c p : Dev nD) : SP F :=
  ((c : Thread nD τ).loc cc0_scratch0) ↦[rowSet p]{fullShare} castAt m c
/-- Chunk `k` of the staged weights of device `c`, at contents `f`. -/
def chunkPts (c : Dev nD) (k : Fin 4) (f : (cc0_scratch2 : Ref sig .tc).ty.Contents (Elt F)) : SP F :=
  ((c : Thread nD τ).loc cc0_scratch2) ↦[chunkSet k]{fullShare} f
/-- Chunk `k` of the weights in device `c`'s HBM. -/
def hbmPts (c : Dev nD) (k : Fin 4) : SP F :=
  ((c : Thread nD τ).loc main_arg1) ↦[chunkSet k]{fullShare} wAt m c

instance colPts_storable (d s : Dev nD) (f) : BI.Storable (upEmb : UEmb _ (MT nD τ sig Unit (Elt F) ℕ UU ℕ)) (colPts (F := F) d s f) := by
  unfold colPts; infer_instance
instance rowPts_storable (c p : Dev nD) : BI.Storable (upEmb : UEmb _ (MT nD τ sig Unit (Elt F) ℕ UU ℕ)) (rowPts m c p) := by
  unfold rowPts; infer_instance
instance chunkPts_storable (c : Dev nD) (k : Fin 4) (f) : BI.Storable (upEmb : UEmb _ (MT nD τ sig Unit (Elt F) ℕ UU ℕ)) (chunkPts (F := F) c k f) := by
  unfold chunkPts; infer_instance
instance hbmPts_storable (c : Dev nD) (k : Fin 4) : BI.Storable (upEmb : UEmb _ (MT nD τ sig Unit (Elt F) ℕ UU ℕ)) (hbmPts m c k) := by
  unfold hbmPts; infer_instance

/-- The duties of a cell of device `c`. -/
def dutiesAt (c : Dev nD) : Option Kind → Finset (Dev nD)
  | some (.inl _) => others c
  | some (.inr (.inl _)) => ∅
  | some (.inr (.inr (.inl _))) => {0}
  | some (.inr (.inr (.inr (.inl _)))) => {0}
  | some (.inr (.inr (.inr (.inr (.inl s))))) => if s = c then ∅ else {0}
  | some (.inr (.inr (.inr (.inr (.inr _))))) => {0}
  | none => ∅

/-- The units a duty of a cell contributes. -/
def amountAt : Option Kind → ℕ
  | some (.inl _) => 1
  | some (.inr (.inr (.inr (.inr (.inr _))))) => NW
  | _ => NX

/-- What a duty `d` of a cell of device `c` hands over. -/
def payAt (c d : Dev nD) : Option Kind → SP F
  | some (.inl _) => iprop(∃ f, colPts d c f)
  | some (.inr (.inl _)) => iprop(emp)
  | some (.inr (.inr (.inl _))) => iprop(colPts c c (gathAt m c) ∗ rowPts m c c)
  | some (.inr (.inr (.inr (.inl r)))) => rowPts m c (sendTo r c)
  | some (.inr (.inr (.inr (.inr (.inl s))))) => colPts c s (gathAt m c)
  | some (.inr (.inr (.inr (.inr (.inr k))))) => iprop(chunkPts c k (wAt m c) ∗ hbmPts m c k)
  | none => iprop(emp)

theorem amountAt_pos (k : Option Kind) : 0 < amountAt k := by
  rcases k with _ | (_ | _ | _ | _ | _ | _)
  · exact NX_pos
  · exact Nat.one_pos
  · exact NX_pos
  · exact NX_pos
  · exact NX_pos
  · exact NX_pos
  · exact NW_pos

/-- The schedule: every cell has its duties in round 0. -/
def sched : Rounds.Schedule (GSem nD τ sig) (Dev nD) (MT nD τ sig Unit (Elt F) ℕ UU ℕ) where
  duties g r := if r = 0 then dutiesAt g.1.1 (kindOf g.2) else ∅
  unitless _ := False
  amount g _ _ := amountAt (kindOf g.2)
  payload g _ d := payAt m g.1.1 d (kindOf g.2)
  amount_pos g _ _ _ := amountAt_pos _

instance sched_storable (g : GSem nD τ sig) (r : ℕ) (d : Dev nD) :
    BI.Storable (upEmb : UEmb _ (MT nD τ sig Unit (Elt F) ℕ UU ℕ)) ((sched m).payload g r d) := by
  show BI.Storable upEmb (payAt m g.1.1 d (kindOf g.2))
  rcases kindOf g.2 with _ | (_ | _ | _ | _ | _ | _) <;> (unfold payAt; infer_instance)

section Sched
variable (c : Dev nD) (k : Kind)

theorem duties_at : (sched m).duties (cellAt c k) 0 = dutiesAt c (some k) := by
  show (if (0 : ℕ) = 0 then dutiesAt c (kindOf (semOf k)) else ∅) = _
  rw [if_pos rfl, kindOf_semOf]
theorem duties_later (g : GSem nD τ sig) : ∀ r, 1 ≤ r → (sched m).duties g r = ∅ := fun r hr => by
  show (if r = 0 then _ else ∅) = _
  rw [if_neg (by omega)]
theorem amount_at (d : Dev nD) : (sched m).amount (cellAt c k) 0 d = amountAt (some k) := by
  show amountAt (kindOf (semOf k)) = _
  rw [kindOf_semOf]
theorem payload_at (d : Dev nD) : (sched m).payload (cellAt c k) 0 d = payAt m c d (some k) := by
  show payAt m c d (kindOf (semOf k)) = _
  rw [kindOf_semOf]

theorem duties_recv (s : Dev nD) (h : s ≠ c) : (sched m).duties (cellAt c (kRecv s)) 0 = {0} := by
  rw [duties_at]; exact if_neg h
theorem duties_recv_self : (sched m).duties (cellAt c (kRecv c)) 0 = ∅ := by
  rw [duties_at]; exact if_pos rfl

theorem expect_bar : (sched m).expect (cellAt c kBar) 0 = 31 := by
  unfold Schedule.expect Schedule.amountOf
  rw [Finset.sum_congr rfl fun d _ => amount_at m c kBar d, duties_at, Finset.sum_const]
  show (others c).card • 1 = 31
  rw [Finset.card_erase_of_mem (Finset.mem_univ c)]; rfl
/-- A cell with one duty expects its units, … -/
theorem expect_one (h : (sched m).duties (cellAt c k) 0 = {0}) : (sched m).expect (cellAt c k) 0 = amountAt (some k) := by
  unfold Schedule.expect Schedule.amountOf
  rw [h, Finset.sum_singleton, amount_at]
/-- … and hands over its payload. -/
theorem rest_one (h : (sched m).duties (cellAt c k) 0 = {0}) :
    bigSep ((sched m).duties (cellAt c k) 0 \ ∅) (fun d => (sched m).payload (cellAt c k) 0 d) = payAt m c 0 (some k) := by
  rw [Finset.sdiff_empty, h, bigSep_singleton, payload_at]
theorem rest_bar :
    bigSep ((sched m).duties (cellAt c kBar) 0 \ ∅) (fun d => (sched m).payload (cellAt c kBar) 0 d)
      = bigSep (others c) fun d => iprop(∃ f, colPts (F := F) d c f) := by
  rw [Finset.sdiff_empty, duties_at]
  exact bigSep_congr fun d _ => payload_at m c kBar d
end Sched

/-! ## Tours of the other devices -/

/-- What is held for every other device is held once per stop of a tour of them. -/
theorem bigSep_tour (c : Dev nD) (σ : Fin 31 → Dev nD) (hi : ∀ r r', σ r = σ r' → r = r') (hne : ∀ r, σ r ≠ c) (Φ : Dev nD → SP F) :
    bigSep (others c) Φ = bigSep Finset.univ fun r : Fin 31 => Φ (σ r) := by
  rw [tour c σ (fun r r' => hi r r') hne, bigSep_map]
  rfl
theorem bigSep_sigTo (c : Dev nD) (Φ : Dev nD → SP F) : bigSep (others c) Φ = bigSep Finset.univ fun r : Fin 31 => Φ (sigTo r c) :=
  bigSep_tour c _ (sigTo_inj c) (sigTo_ne c) Φ
theorem bigSep_sendTo (c : Dev nD) (Φ : Dev nD → SP F) : bigSep (others c) Φ = bigSep Finset.univ fun r : Fin 31 => Φ (sendTo r c) :=
  bigSep_tour c _ (sendTo_inj c) (sendTo_ne c) Φ
theorem bigSep_recvFrom (c : Dev nD) (Φ : Dev nD → SP F) : bigSep (others c) Φ = bigSep Finset.univ fun r : Fin 31 => Φ (recvFrom r c) :=
  bigSep_tour c _ (recvFrom_inj c) (recvFrom_ne c) Φ

/-! ## What the devices owe, and the order of their waits -/

/-- What device `c` owes at transfer `r`: the block's units at its receive cell there. -/
def dueSend (c : Dev nD) (r : Fin 31) : CellTallies nD τ sig Unit := tallyAt (cellAt (sendTo r c) (kRecv c)) () NX
/-- What device `c` owes at signal `r`: a unit at a barrier cell. -/
def dueSig (c : Dev nD) (r : Fin 31) : CellTallies nD τ sig Unit := tallyAt (cellAt (sigTo r c) kBar) () 1

/-- The dues from the `n`-th on. -/
def duesFrom (due : Fin 31 → CellTallies nD τ sig Unit) (n : ℕ) : CellTallies nD τ sig Unit :=
  ∑ r ∈ Finset.univ.filter (fun r : Fin 31 => n ≤ r.val), due r

theorem duesFrom_succ (due : Fin 31 → CellTallies nD τ sig Unit) (r : Fin 31) :
    duesFrom due r.val = duesFrom due (r.val + 1) + due r := by
  unfold duesFrom
  rw [show Finset.univ.filter (fun q : Fin 31 => r.val ≤ q.val) = insert r (Finset.univ.filter fun q : Fin 31 => r.val + 1 ≤ q.val) from by
    ext q; simp only [Finset.mem_filter, Finset.mem_univ, true_and, Finset.mem_insert, Fin.ext_iff]; omega]
  rw [Finset.sum_insert (by simp), add_comm]
theorem duesFrom_end (due : Fin 31 → CellTallies nD τ sig Unit) : duesFrom due 31 = 0 := by
  unfold duesFrom
  rw [Finset.filter_false_of_mem (fun r _ => by omega), Finset.sum_empty]

/-- What device `c` owes at launch. -/
def O₀ (c : Dev nD) : CellTallies nD τ sig Unit := duesFrom (dueSend c) 0 + duesFrom (dueSig c) 0

theorem duesFrom_pos {due : Fin 31 → CellTallies nD τ sig Unit} {n : ℕ} {g : GSem nD τ sig} {u : Unit} (h : 0 < duesFrom due n g u) :
    ∃ r, 0 < due r g u := by
  by_contra hn
  push Not at hn
  unfold duesFrom at h
  rw [Finset.sum_apply, Finsupp.finsetSum_apply, Finset.sum_eq_zero fun r _ => Nat.le_zero.mp (hn r)] at h
  exact Nat.lt_irrefl 0 h

/-- The semaphores' levels: barriers below receive cells, everything else below both. -/
def lvKind : Option Kind → ℕ
  | some (.inl _) => 1
  | some (.inr (.inr (.inr (.inr (.inl _))))) => 2
  | _ => 0
def lv (g : GSem nD τ sig) (_ : Unit) : ℕ := lvKind (kindOf g.2)
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Kind) (u : Unit) : lv (cellAt c k) u = lvKind (some k) := by
  show lvKind (kindOf (semOf k)) = _
  rw [kindOf_semOf]

theorem due_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem dueSend_pos {c : Dev nD} {n : ℕ} {g : GSem nD τ sig} {u : Unit} (h : 0 < duesFrom (dueSend c) n g u) :
    ∃ d, g = cellAt d (kRecv c) := by
  obtain ⟨r, hr⟩ := duesFrom_pos h
  exact ⟨_, due_pos hr⟩
theorem dueSig_pos {c : Dev nD} {n : ℕ} {g : GSem nD τ sig} {u : Unit} (h : 0 < duesFrom (dueSig c) n g u) :
    ∃ d, g = cellAt d kBar := by
  obtain ⟨r, hr⟩ := duesFrom_pos h
  exact ⟨_, due_pos hr⟩
theorem O₀_pos {c : Dev nD} {g : GSem nD τ sig} {u : Unit} (h : 0 < O₀ c g u) :
    (∃ d, g = cellAt d (kRecv c)) ∨ ∃ d, g = cellAt d kBar := by
  unfold O₀ at h
  rw [Pi.add_apply, Finsupp.add_apply] at h
  rcases Nat.eq_zero_or_pos (duesFrom (dueSend c) 0 g u) with h0 | h0
  · rw [h0, Nat.zero_add] at h; exact .inr (dueSig_pos h)
  · exact .inl (dueSend_pos h0)

/-- A staging semaphore may be waited on with everything still owed. -/
theorem mayWait_stage (c : Dev nD) (q : DmaSem sig) (hq : q.val < 4) (O : CellTallies nD τ sig Unit) (hO : O = O₀ c ∨ O = 0) :
    (levAts L lv : SP F) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨d, rfl⟩ <;> exact Finset.mem_singleton_self _)
      (fun p hp => by
        rw [Finset.mem_singleton.mp hp]
        show lvKind (if q.val < 4 then none else _) ≤ 0
        rw [if_pos hq]; exact Nat.le_refl 0)
      (fun g u hg => by
        rcases O₀_pos hg with ⟨d, rfl⟩ | ⟨d, rfl⟩ <;> rw [lv_at]
        · exact Nat.two_pos
        · exact Nat.one_pos)
  · rw [MayWait_zero]; iintro -; iempintro

/-- At its barrier a device owes receive cells only, which are above it. -/
theorem mayWait_bar (c : Dev nD) :
    (levAts L lv : SP F) ⊢ MayWait (c : Thread nD τ) (.reg barS) () (duesFrom (dueSend c) 0) :=
  MayOwe.of_cut (L := L) (lev := lv) 1 (fun p hp => by rw [Finset.mem_singleton.mp hp, L_tc]; exact Finset.mem_singleton_self _)
    (fun g u hg => by obtain ⟨d, rfl⟩ := dueSend_pos hg; exact Finset.mem_singleton_self _)
    (fun p hp => by rw [Finset.mem_singleton.mp hp]; exact Nat.le_refl 1)
    (fun g u hg => by obtain ⟨d, rfl⟩ := dueSend_pos hg; rw [lv_at]; exact Nat.one_lt_two)

end Cert.KernelIdeal

end
-- ==== Proof.Steps.lean ====
/- The stretches of the body, each proved once.

   A loop of the body is proved by one lemma about its step (`wp_seqF`): the step takes what is
   held for its index and a state threaded through the loop, and gives what it leaves. -/
module

public import proofs.«01_k».proof.Proof.Protocol

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Programs in sequence -/

abbrev 𝒱₀ : Variants := Variants.none

/-- On device `c` the program `p` runs to the end, leaving `Q`. -/
abbrev runs (c : Dev nD) (p : Stretch F) (Q : SP F) : SP F :=
  wp frame (wpE (defs₀ (F := F)) 𝒱₀ (c : Thread nD τ) none) Set.univ p fun _ => Q

/-- A stretch, then the rest. -/
theorem runs_then {c : Dev nD} {p : Stretch F} {k : PUnit → Stretch F} {P Φ Q : SP F} (h : P ⊢ runs c p Φ) :
    P ⊢ iprop((Φ -∗ runs c (k ⟨⟩) Q) -∗ runs c (p.bind k) Q) := by
  refine h.trans ?_
  unfold runs
  rw [show p.bind k = (p >>= k) from rfl, wp_bind]
  exact (wp_wand _ _ _).trans (wand_mono_left (by
    iintro H %a H'
    iapply H; iexact H'))

/-- The same, in `do` notation. -/
theorem runs_do {c : Dev nD} {p : Stretch F} {k : PUnit → Stretch F} {P Φ Q : SP F} (h : P ⊢ runs c p Φ) :
    P ⊢ iprop((Φ -∗ runs c (k ⟨⟩) Q) -∗ runs c (p >>= k) Q) := runs_then h

/-- The same, at a single operation. -/
theorem runs_op {c : Dev nD} {e : TpuEff nD τ sig (Elt F) Λ₀ .tc PUnit} {k : PUnit → Stretch F} {P Φ Q : SP F} (h : P ⊢ runs c (Prog.lift e) Φ) :
    P ⊢ iprop((Φ -∗ runs c (k ⟨⟩) Q) -∗ runs c (.op e k) Q) := runs_then (p := Prog.lift e) h

/-- A family, member by member. -/
theorem each {n : ℕ} {Φ Ψ : Fin n → SP F} (h : ∀ i, Φ i ⊢ Ψ i) : bigSep Finset.univ Φ ⊢ (bigSep Finset.univ Ψ : SP F) :=
  bigSep_mono fun i _ => h i

/-- A loop, by its step: `P i` is what is held for index `i`, `S i` the state before it, `Φ i` what it leaves. -/
theorem wp_seqF {c : Dev nD} {B : SP F} [BI.Persistent B] (n : ℕ) : ∀ (f : Fin n → Stretch F) (P Φ : Fin n → SP F) (S : ℕ → SP F)
    (h : ∀ i : Fin n, iprop(B ∗ P i ∗ S i.val) ⊢ runs c (f i) iprop(Φ i ∗ S (i.val + 1))),
    iprop(B ∗ bigSep Finset.univ P ∗ S 0) ⊢ runs c (seqF n f) iprop(bigSep Finset.univ Φ ∗ S n) := by
  induction n with
  | zero =>
    intro f P Φ S h
    unfold seqF runs
    rw [wp_ret, Finset.univ_eq_empty, bigSep_empty, bigSep_empty]
    iintro ⟨-, -, HS⟩
    imodintro
    isplitr; · iempintro
    iexact HS
  | succ n ih =>
    intro f P Φ S h
    unfold seqF
    rw [bigSep_univ_succ, bigSep_univ_succ]
    iintro ⟨#HB, ⟨H0, HP⟩, HS⟩
    iapply (runs_then (show iprop(B ∗ P 0 ∗ S 0) ⊢ runs c (f 0) iprop(Φ 0 ∗ S (0 + 1)) from h 0)) $$ [H0 HS]
    · isplitr; · iexact HB
      isplitl [H0]; · iexact H0
      iexact HS
    iintro ⟨HQ, HS⟩
    iapply (wp_wand _ _ _) $$ [HP HS]
    · iapply (ih (fun i => f i.succ) (fun i => P i.succ) (fun i => Φ i.succ) (fun j => S (j + 1)) fun i => h i.succ)
      isplitr; · iexact HB
      isplitl [HP]; · iexact HP
      iexact HS
    iintro %a ⟨HQs, HS⟩
    isplitr [HS]
    · isplitl [HQ] <;> iassumption
    iexact HS

variable (m : (ℓ : Loc nD τ sig) → Buf (Elt F) ℓ) (K : Dev nD × Kind → ℕ)

/-! ## What every device knows -/

/-- The cells' invariants and that each has reached round 0. -/
def records : SP F :=
  iprop((bigSep Finset.univ fun ck : Dev nD × Kind => cellInv ER (sched m) (K ck) (cellAt ck.1 ck.2))
    ∗ bigSep Finset.univ fun ck : Dev nD × Kind => reached ER (cellAt ck.1 ck.2) 0)

instance records_persistent : BI.Persistent (records m K) := by unfold records; infer_instance

theorem inv_at (c : Dev nD) (k : Kind) : records m K ⊢ cellInv ER (sched m) (K (c, k)) (cellAt c k) := by
  unfold records
  haveI := Classical.decEq (Dev nD × Kind)
  refine sep_elim_left.trans ?_
  exact bigSep_elim (Φ := fun ck : Dev nD × Kind => cellInv ER (sched m) (K ck) (cellAt ck.1 ck.2)) (Finset.mem_univ (c, k))
theorem reached_at (c : Dev nD) (k : Kind) : records m K ⊢ reached ER (cellAt c k) 0 := by
  unfold records
  haveI := Classical.decEq (Dev nD × Kind)
  refine sep_elim_right.trans ?_
  exact bigSep_elim (Φ := fun ck : Dev nD × Kind => reached ER (cellAt ck.1 ck.2) 0) (Finset.mem_univ (c, k))

/-- Device `c` owes `O`. -/
def owesW (c : Dev nD) (O : CellTallies nD τ sig Unit) : SP F := iprop(∃ W, owes (c : Thread nD τ) O W)

/-- The position of device `c` in its cell `k`, before anything. -/
abbrev atStart (c : Dev nD) (k : Kind) : SP F := atPos ER (cellAt c k) 0 ∅ 0
/-- The credit of one duty of a cell. -/
abbrev credOf (c : Dev nD) (k : Kind) : SP F := cred (tallyAt (cellAt c k) () (amountAt (some k)))

/-- A cell whose round is over is closed. -/
theorem close_at (c : Dev nD) (k : Kind) : iprop(records m K ∗ atPos ER (cellAt c k) (0 + 1) ∅ 0) ⊢ iprop(|={Set.univ}=> semVal (cellAt c k) 0) := by
  iintro ⟨#HR, Hat⟩
  iapply (Rounds.cell_close ER (sched m) (Set.mem_univ (K (c, k))) (fun h => h) (R := 0 + 1) (duties_later m (cellAt c k)))
  isplitr; · iapply (inv_at m K c k); iexact HR
  iexact Hat
/-- So is one without duties. -/
theorem close_unused (c : Dev nD) (k : Kind) (h : (sched m).duties (cellAt c k) 0 = ∅) :
    iprop(records m K ∗ atPos ER (cellAt c k) 0 ∅ 0) ⊢ iprop(|={Set.univ}=> semVal (cellAt c k) 0) := by
  iintro ⟨#HR, Hat⟩
  iapply (Rounds.cell_close ER (sched m) (Set.mem_univ (K (c, k))) (fun h => h) (R := 0) (fun r _ => by
    rcases Nat.eq_zero_or_pos r with rfl | hr
    · exact h
    · exact duties_later m _ r hr))
  isplitr; · iapply (inv_at m K c k); iexact HR
  iexact Hat

/-! ## The waits -/

/-- A wait on a cell with one duty, nothing owed: its payload, and the cell closed. -/
theorem wait_one (c : Dev nD) (k : Kind) (q : DmaSem sig) (hq : semOf k = .dma q) (hd : (sched m).duties (cellAt c k) 0 = {0})
    {sp sp' : Space} {s s' : Shape} {e e' : EltTy} (src : Memref sig .tc sp' s' e') (dst : Memref sig .tc sp s e)
    (hsrc : src.view.WordExact) (hdst : dst.view.WordExact) (hN : dst.view.dmaCredit = amountAt (some k)) :
    iprop(records m K ∗ (credOf (F := F) c k ∗ atStart c k) ∗ owesW c 0)
      ⊢ runs c (Prog.lift (.waitDma2 q src dst hsrc hdst)) iprop((payAt m c 0 (some k) ∗ semVal (cellAt c k) 0) ∗ owesW c 0) := by
  have hg : cellAt c k = ((c : Thread nD τ), .dma q) := by unfold cellAt; rw [hq]
  have he := expect_one m c k hd
  have hr := rest_one m c k hd
  have hi := inv_at m K c k
  have hc := close_at m K c k
  unfold credOf atStart
  rw [← hN] at he ⊢
  rw [hg] at he hr hi hc ⊢
  unfold owesW runs
  simp only [Prog.lift]
  iintro ⟨#HR, ⟨Hc, Hat⟩, ⟨%W, HO⟩⟩
  iapply (Rounds.wp_wait_rest_token 𝒱₀ ER (sched m) (c : Thread nD τ) none (κ := K (c, k))
      (wpE_waitDma2_eq 𝒱₀ (c : Thread nD τ) none Set.univ) (Set.mem_univ _) () (O := 0) (W := W) (R := 0) (m := 0) (T := ∅)
      (by rw [Nat.zero_add, he])) $$ [Hc HO Hat]
  · isplitr; · iapply hi; iexact HR
    isplitl [Hc]; · iexact Hc
    isplitl [HO]; · iexact HO
    isplitr; · rw [MayWait_zero]; iempintro
    iexact Hat
  iintro ⟨HO, Hat, -, Hpay⟩
  ihave Hp := (Entails.of_eq hr) $$ Hpay
  imod hc $$ [Hat] with Hz
  · isplitr; · iexact HR
    iexact Hat
  rw [wp_ret]; imodintro
  isplitr [HO]
  · isplitl [Hp] <;> iassumption
  iexists _; iexact HO

/-- The barrier's wait: every other device's column block for this one's transfer. -/
theorem wait_bar (c : Dev nD) :
    iprop(records m K ∗ levAts L lv ∗ cred (tallyAt (cellAt c kBar) () 31) ∗ atStart c kBar ∗ owesW c (duesFrom (dueSend c) 0))
      ⊢ runs c (semWaitWord barS 31#32)
          iprop((bigSep Finset.univ fun r : Fin 31 => iprop(∃ f, colPts (F := F) (sendTo r c) c f)) ∗ semVal (cellAt c kBar) 0
            ∗ owesW c (duesFrom (dueSend c) 0)) := by
  unfold owesW runs
  simp only [semWaitWord, Prog.lift]
  iintro ⟨#HR, #Hlev, Hc, Hat, ⟨%W, HO⟩⟩
  iapply (Rounds.wp_wait_rest_token 𝒱₀ ER (sched m) (c : Thread nD τ) none (κ := K (c, kBar)) (sm := .reg barS)
      (wpE_semWait_eq 𝒱₀ (c : Thread nD τ) none Set.univ) (Set.mem_univ _) () (O := duesFrom (dueSend c) 0) (W := W) (R := 0) (m := 0) (T := ∅)
      (by rw [Nat.zero_add]; exact (expect_bar m c).symm)) $$ [Hc HO Hat]
  · isplitr; · iapply (inv_at m K c kBar); iexact HR
    isplitl [Hc]; · iexact Hc
    isplitl [HO]; · iexact HO
    isplitr; · iapply (mayWait_bar c); iexact Hlev
    iexact Hat
  iintro ⟨HO, Hat, -, Hpay⟩
  ihave Hp := (show bigSep ((sched m).duties ((c : Thread nD τ), .reg barS) 0 \ ∅) (fun d => (sched m).payload ((c : Thread nD τ), .reg barS) 0 d) ⊢ _ from
    Entails.of_eq ((rest_bar m c).trans (bigSep_sendTo c _))) $$ Hpay
  imod (close_at m K c kBar) $$ [Hat] with Hz
  · isplitr; · iexact HR
    iexact Hat
  rw [wp_ret]; imodintro
  isplitl [Hp]; · iexact Hp
  isplitl [Hz]; · iexact Hz
  iexists _; iexact HO

/-! ## The signals -/

theorem signal_step (c : Dev nD) (r : Fin 31) :
    iprop(records m K ∗ (dutyTok ER (cellAt (sigTo r c) kBar) 0 c ∗ ∃ f, colPts (F := F) c (sigTo r c) f)
        ∗ owesW c (duesFrom (dueSend c) 0 + duesFrom (dueSig c) r.val))
      ⊢ runs c (signal c r) iprop(emp ∗ owesW c (duesFrom (dueSend c) 0 + duesFrom (dueSig c) (r.val + 1))) := by
  unfold owesW runs signal
  simp only [semSignalWord]
  iintro ⟨#HR, ⟨Ht, Hf⟩, ⟨%W, HO⟩⟩
  iapply (Rounds.wp_signal 𝒱₀ ER (sched m) (c : Thread nD τ) none (dst := (sigTo r c : Thread nD τ)) (κ := K (sigTo r c, kBar)) (r := 0)
      (d := c) (show c ∈ (sched m).duties (cellAt (sigTo r c) kBar) 0 by
        rw [duties_at]; exact Finset.mem_erase.mpr ⟨(sigTo_ne c r).symm, Finset.mem_univ _⟩)
      ((amount_at m (sigTo r c) kBar c).trans (by decide)) () (duesFrom (dueSend c) 0 + duesFrom (dueSig c) (r.val + 1))
      (show duesFrom (dueSend c) 0 + duesFrom (dueSig c) r.val = _ by rw [duesFrom_succ (dueSig c) r, ← add_assoc]; rfl))
    $$ [HO Ht Hf]
  · isplitr; · iapply (inv_at m K (sigTo r c) kBar); iexact HR
    isplitl [HO]; · iexact HO
    isplitl [Ht]; · iexact Ht
    isplitl [Hf]
    · iapply (show iprop(∃ f, colPts (F := F) c (sigTo r c) f) ⊢ (sched m).payload ((sigTo r c : Thread nD τ), .reg barS) 0 c from
        Entails.of_eq (payload_at m (sigTo r c) kBar c).symm)
      iexact Hf
    iapply (reached_at m K (sigTo r c) kBar); iexact HR
  iintro HO
  rw [wp_ret]; imodintro
  isplitr; · iempintro
  iexists _; iexact HO

/-! ## The copies and transfers -/

theorem wSrc_set (k : Fin 4) : (wSrc hM k).view.set = chunkSet k := (View.set_slice_whole main_arg1 _).trans (chunk_unit k _)
theorem wDst_set (k : Fin 4) : (wDst wM k).view.set = chunkSet k := (View.set_slice_whole cc0_scratch2 _).trans (chunk_unit k _)
theorem xSrc_set (c : Dev nD) (r : Fin 31) : (xSrc bM c r).view.set = rowSet (sendTo r c) :=
  (View.set_slice_whole cc0_scratch0 _).trans (rows_unit _ _ (off3_eq c r) _)
theorem ownSrc_set (c : Dev nD) : (ownSrc bM c).view.set = rowSet c :=
  (View.set_slice_whole cc0_scratch0 _).trans (rows_unit _ _ (k0_off4_eq c) _)
theorem xDst_set (c : Dev nD) : (xDst gM c).view.set = colSet c :=
  (View.set_slice_whole cc0_scratch1 _).trans (cols_unit _ _ (k0_off2_eq c) _)

theorem startW_step (c : Dev nD) (k : Fin 4) :
    iprop(records m K ∗ (dutyTok ER (cellAt c (kChunk k)) 0 0 ∗ hbmPts m c k ∗ ∃ f, chunkPts (F := F) c k f) ∗ emp)
      ⊢ runs c (startW hM wM cc0_scratch7 k) iprop(credOf c (kChunk k) ∗ emp) := by
  unfold runs startW
  simp only [Prog.lift]
  iintro ⟨#HR, ⟨Ht, Hh, ⟨%f, Hw⟩⟩, -⟩
  have h1 : hbmPts m c k = ((wSrc hM k).view.loc (c : Thread nD τ) ↦[(wSrc hM k).view.set]{fullShare} wAt m c) := by
    unfold hbmPts; rw [wSrc_set]
  have h2 (f) : chunkPts (F := F) c k f = ((wDst wM k).view.loc (c : Thread nD τ) ↦[(wDst wM k).view.set]{fullShare} f) := by
    unfold chunkPts; rw [wDst_set]
  ihave Hh' := (Entails.of_eq h1) $$ Hh
  ihave Hw' := (Entails.of_eq (h2 f)) $$ Hw
  iapply (Rounds.wp_copy_pointsTo 𝒱₀ ER (sched m) (c : Thread nD τ) none (κ := K (c, kChunk k)) (r := 0) (d := 0)
      (src := wSrc hM k) (dst := wDst wM k) (sem := .dma (wSem cc0_scratch7 k)) (fs := wAt m c) (fd := f)
      (show (0 : Dev nD) ∈ (sched m).duties (cellAt c (kChunk k)) 0 by rw [duties_at]; exact Finset.mem_singleton_self _)
      () NW rfl (amount_at m c (kChunk k) 0)
      (by
        refine BI.Entails.trans ?_ (Entails.of_eq (payload_at m c (kChunk k) 0).symm)
        show _ ⊢ iprop(chunkPts c k (wAt m c) ∗ hbmPts m c k)
        rw [h1, h2]
        refine sep_mono_left (Entails.of_eq (pointsTo_congr fun i hi => ?_))
        rw [wDst_set] at hi
        exact carriedW m c k f i hi)) $$ [Hh' Hw' Ht]
  · isplitr; · iapply (inv_at m K c (kChunk k)); iexact HR
    isplitl [Hh']; · iexact Hh'
    isplitl [Hw']; · iexact Hw'
    isplitl [Ht]; · iexact Ht
    iapply (reached_at m K c (kChunk k)); iexact HR
  iintro Hc
  rw [wp_ret]; imodintro
  isplitl [Hc]; · iexact Hc
  iempintro

theorem rowPts_eq (c p : Dev nD) (off : Fin 2 → ℕ) (h : off = ![128 * p.val, 0]) (inb) (hs) :
    rowPts m c p = ((bM.slice (Rect.unit (s := S4096x128) off S128x128.size inb) hs).view.loc (c : Thread nD τ)
      ↦[(bM.slice (Rect.unit (s := S4096x128) off S128x128.size inb) hs).view.set]{fullShare} castAt m c) := by
  unfold rowPts
  rw [show (bM.slice (Rect.unit (s := S4096x128) off S128x128.size inb) hs).view.set = rowSet p from
    (View.set_slice_whole cc0_scratch0 _).trans (rows_unit _ _ h _)]
theorem colPts_eq (d s : Dev nD) (f) :
    colPts (F := F) d s f = ((xDst gM s).view.loc (d : Thread nD τ) ↦[(xDst gM s).view.set]{fullShare} f) := by
  unfold colPts; rw [xDst_set]

/-- What lands in a device's column block is its gathered block. -/
theorem landed (c p : Dev nD) (off : Fin 2 → ℕ) (h : off = ![128 * p.val, 0]) (inb) (hs) (f) :
    (((xDst gM c).view.loc (p : Thread nD τ) ↦[(xDst gM c).view.set]{fullShare}
        ((xDst gM c).view.write (Elt F) f ((bM.slice (Rect.unit (s := S4096x128) off S128x128.size inb) hs).view.read (Elt F) (castAt m c)) Finset.univ)) : SP F)
      = colPts p c (gathAt m p) := by
  rw [colPts_eq]
  refine pointsTo_congr fun i hi => ?_
  rw [xDst_set] at hi
  exact carried m c p off _ h (k0_off2_eq c) inb (k0_off2_inb c) f i hi

theorem send_step (c : Dev nD) (r : Fin 31) :
    iprop(records m K ∗ (rowPts m c (sendTo r c) ∗ (∃ f, colPts (F := F) (sendTo r c) c f)
          ∗ dutyTok ER (cellAt c (kSend r)) 0 0 ∗ dutyTok ER (cellAt (sendTo r c) (kRecv c)) 0 0)
        ∗ owesW c (duesFrom (dueSend c) r.val))
      ⊢ runs c (send bM (Memref.isWhole_whole _) gM (Memref.isWhole_whole _) cc0_scratch5 cc0_scratch6 c r)
          iprop(credOf c (kSend r) ∗ owesW c (duesFrom (dueSend c) (r.val + 1))) := by
  unfold owesW runs send
  simp only [Prog.lift]
  iintro ⟨#HR, ⟨Hx, ⟨%f, Hg⟩, Ht1, Ht2⟩, ⟨%W, HO⟩⟩
  ihave Hx' := (Entails.of_eq (rowPts_eq m c (sendTo r c) _ (off3_eq c r) (k0_off3_inb c r) (fun _ => rfl))) $$ Hx
  ihave Hg' := (Entails.of_eq (colPts_eq (sendTo r c) c f)) $$ Hg
  iapply (Rounds.wp_send_pointsTo 𝒱₀ ER (sched m) (c : Thread nD τ) none (κ₁ := K (c, kSend r)) (κ₂ := K (sendTo r c, kRecv c))
      (r₁ := 0) (r₂ := 0) (d₁ := 0) (d₂ := 0) (c' := (sendTo r c : Thread nD τ)) (src := xSrc bM c r) (dst := xDst gM c)
      (sS := .dma (sendSem cc0_scratch5 r)) (sem := .dma (recvSem cc0_scratch6 c)) (fs := castAt m c) (fd := f)
      (show (0 : Dev nD) ∈ (sched m).duties (cellAt c (kSend r)) 0 by rw [duties_at]; exact Finset.mem_singleton_self _)
      (show (0 : Dev nD) ∈ (sched m).duties (cellAt (sendTo r c) (kRecv c)) 0 by
        rw [duties_recv m _ c (sendTo_ne c r).symm]; exact Finset.mem_singleton_self _)
      () () NX rfl (amount_at m c (kSend r) 0) (amount_at m (sendTo r c) (kRecv c) 0)
      (duesFrom (dueSend c) (r.val + 1)) (duesFrom_succ (dueSend c) r) (W := W)
      ((Entails.of_eq (rowPts_eq m c (sendTo r c) _ (off3_eq c r) (k0_off3_inb c r) (fun _ => rfl)).symm).trans
        (Entails.of_eq (payload_at m c (kSend r) 0).symm))
      ((Entails.of_eq (landed m c (sendTo r c) _ (off3_eq c r) (k0_off3_inb c r) (fun _ => rfl) f)).trans
        (Entails.of_eq (payload_at m (sendTo r c) (kRecv c) 0).symm))) $$ [Hx' Hg' HO Ht1 Ht2]
  · isplitr; · iapply (inv_at m K c (kSend r)); iexact HR
    isplitr; · iapply (inv_at m K (sendTo r c) (kRecv c)); iexact HR
    isplitl [Hx']; · iexact Hx'
    isplitl [Hg']; · iexact Hg'
    isplitl [HO]; · iexact HO
    isplitl [Ht1]; · iexact Ht1
    isplitr; · iapply (reached_at m K c (kSend r)); iexact HR
    isplitl [Ht2]; · iexact Ht2
    iapply (reached_at m K (sendTo r c) (kRecv c)); iexact HR
  iintro ⟨Hc, HO⟩
  rw [wp_ret]; imodintro
  isplitl [Hc]; · iexact Hc
  iexists _; iexact HO

theorem startOwn_step (c : Dev nD) :
    iprop(records m K ∗ rowPts m c c ∗ (∃ f, colPts (F := F) c c f) ∗ dutyTok ER (cellAt c kOwn) 0 0)
      ⊢ runs c (startOwn bM (Memref.isWhole_whole _) gM (Memref.isWhole_whole _) cc0_scratch8 c) (credOf c kOwn) := by
  unfold runs startOwn
  simp only [Prog.lift]
  iintro ⟨#HR, Hx, ⟨%f, Hg⟩, Ht⟩
  have h1 := rowPts_eq m c c _ (k0_off4_eq c) (k0_off4_inb c) (fun _ => rfl)
  ihave Hx' := (Entails.of_eq h1) $$ Hx
  ihave Hg' := (Entails.of_eq (colPts_eq c c f)) $$ Hg
  iapply (Rounds.wp_copy_pointsTo 𝒱₀ ER (sched m) (c : Thread nD τ) none (κ := K (c, kOwn)) (r := 0) (d := 0)
      (src := ownSrc bM c) (dst := xDst gM c) (sem := .dma cc0_scratch8.sem) (fs := castAt m c) (fd := f)
      (show (0 : Dev nD) ∈ (sched m).duties (cellAt c kOwn) 0 by rw [duties_at]; exact Finset.mem_singleton_self _)
      () NX rfl (amount_at m c kOwn 0)
      ((BI.sep_mono (Entails.of_eq (landed m c c _ (k0_off4_eq c) (k0_off4_inb c) (fun _ => rfl) f)) (Entails.of_eq h1.symm)).trans
        (Entails.of_eq (payload_at m c kOwn 0).symm))) $$ [Hx' Hg' Ht]
  · isplitr; · iapply (inv_at m K c kOwn); iexact HR
    isplitl [Hx']; · iexact Hx'
    isplitl [Hg']; · iexact Hg'
    isplitl [Ht]; · iexact Ht
    iapply (reached_at m K c kOwn); iexact HR
  iintro Hc
  rw [wp_ret]; imodintro
  iexact Hc

end Cert.KernelIdeal

end
-- ==== Proof.Locals.lean ====
/- The stretches that compute: the casts, the receipts, the products and the result. -/
module

public import proofs.«01_k».proof.Proof.Steps

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × Kind → ℕ)

/-- Device `c`'s buffer `b`, whole. -/
abbrev wholePts (c : Dev nD) (b : Ref sig .tc) (f : Buf (Elt F) ((c : Thread nD τ).loc b)) : SP F := ((c : Thread nD τ).loc b) ↦{fullShare} f

theorem hz2 : (![0, 0] : Fin 2 → ℕ) = fun _ => 0 := by funext a; fin_cases a <;> rfl

theorem read_x (f : (cc0_stg0_0 : Ref sig .tc).ty.Contents (Elt F)) :
    xM.view.readAt (Elt F) (Rect.unit (s := S4096x128) ![0, 0] S4096x128.size inb_S4096x128_S4096x128_0_0).toLoadRect f = f :=
  Memref.readAt_unit_zero (Elt F) cc0_stg0_0 hz2 _ f
theorem write_b (f w : (cc0_scratch0 : Ref sig .tc).ty.Contents (Elt F)) :
    (bM.access (Rect.unit (s := S4096x128) ![0, 0] S4096x128.size inb_S4096x128_S4096x128_0_0) : View sig .tc _ _ _).write (Elt F) f w Finset.univ = w :=
  Memref.write_access_unit_zero_univ (Elt F) cc0_scratch0 hz2 _ f w
/-- The whole of a block of the result's shape. -/
abbrev rOut : Rect S128x2048 := Rect.unit (s := S128x2048) ![0, 0] S128x2048.size inb_S128x2048_S128x2048_0_0
theorem read_acc (f : (cc0_scratch4 : Ref sig .tc).ty.Contents (Elt F)) : aM.view.readAt (Elt F) rOut.toLoadRect f = f :=
  Memref.readAt_unit_zero (Elt F) cc0_scratch4 hz2 _ f
theorem write_acc (f w : (cc0_scratch4 : Ref sig .tc).ty.Contents (Elt F)) :
    (aM.access rOut : View sig .tc _ _ _).write (Elt F) f w Finset.univ = w :=
  Memref.write_access_unit_zero_univ (Elt F) cc0_scratch4 hz2 _ f w
theorem write_out (f w : (cc0_stg3_0 : Ref sig .tc).ty.Contents (Elt F)) :
    (oM.access rOut : View sig .tc _ _ _).write (Elt F) f w Finset.univ = w :=
  Memref.write_access_unit_zero_univ (Elt F) cc0_stg3_0 hz2 _ f w

/-! ## The cast of `x` -/

theorem castX_step (c : Dev nD) :
    iprop(wholePts c cc0_stg0_0 (xAt m c) ∗ ∃ f, wholePts (F := F) c cc0_scratch0 f)
      ⊢ runs c (castX xM bM (Memref.isWhole_whole _)) iprop(wholePts c cc0_stg0_0 (xAt m c) ∗ wholePts c cc0_scratch0 (castAt m c)) := by
  unfold runs castX
  simp only [Prog.lift, Prog.bind_op, Prog.bind_ret]
  iintro ⟨Hx, ⟨%f, Hb⟩⟩
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM)
    (r := Rect.unit (s := S4096x128) ![0, 0] S4096x128.size inb_S4096x128_S4096x128_0_0) (Mk := Finset.univ) (Finset.subset_univ _)) $$ Hb; iintro Hb
  rw [write_b, wp_ret]
  imodintro
  isplitl [Hx]; · iexact Hx
  iexact Hb

/-! ## The weights -/

/-- The cast weights, the first `n` chunks of them. -/
def wcastTo (c : Dev nD) (n : ℕ) : SP F :=
  iprop((∃ f, ⌜∀ i, (chunkOf i).val < n → f i = wcastAt m c i⌝ ∗ wholePts c cc0_scratch3 f) ∗ owesW c 0)

theorem castW_step (c : Dev nD) (k : Fin 4) :
    iprop(records m K ∗ (credOf (F := F) c (kChunk k) ∗ atStart c (kChunk k)) ∗ wcastTo m c k.val)
      ⊢ runs c (castW hM wM vM (Memref.isWhole_whole _) cc0_scratch7 k)
          iprop(((chunkPts c k (wAt m c) ∗ hbmPts m c k) ∗ semVal (cellAt c (kChunk k)) 0) ∗ wcastTo m c (k.val + 1)) := by
  unfold castW wcastTo
  iintro ⟨#HR, Hw, ⟨%f, %hf, Hv⟩, HO⟩
  iapply (runs_do (wait_one m K c (kChunk k) (wSem cc0_scratch7 k) rfl (duties_at m c (kChunk k)) (wSrc hM k) (wDst wM k)
    (View.wordExact_bits rfl) (View.wordExact_bits rfl) rfl)) $$ [Hw HO]
  · isplitr; · iexact HR
    isplitl [Hw] <;> iassumption
  iintro ⟨⟨Hpay, Hz⟩, HO⟩
  ihave Hp := (show payAt m c 0 (some (kChunk k)) ⊢ iprop(chunkPts c k (wAt m c) ∗ hbmPts m c k) from BI.Entails.refl _) $$ Hpay
  icases Hp with ⟨Hc, Hh⟩
  unfold runs
  simp only [Prog.lift, Prog.bind_op, Prog.bind_ret]
  unfold chunkPts
  iapply (wp_load_rect 𝒱₀ (c : Thread nD τ) none Set.univ (m := wM)
    (r := Rect.unit (s := S4096x2048) ![chunkRow k, 0] S1024x2048.size (chunk_inb k)) (S := chunkSet k)
    (Finset.subset_of_eq ((View.set_slice_whole cc0_scratch2 _).trans (chunk_unit k _)))) $$ Hc
  iintro Hc
  iapply (wp_load 𝒱₀ (c : Thread nD τ) none Set.univ (m := vM) (Finset.subset_univ _)) $$ Hv; iintro Hv
  iapply (wp_store 𝒱₀ (c : Thread nD τ) none Set.univ (m := vM)
    (r := Rect.unit (s := S4096x2048) ![chunkRow k, 0] S1024x2048.size (chunk_inb k)) (Mk := Finset.univ) (Finset.subset_univ _)) $$ Hv; iintro Hv
  rw [wp_ret]
  imodintro
  isplitl [Hc Hh Hz]
  · isplitl [Hc Hh]
    · isplitl [Hc] <;> iassumption
    iexact Hz
  isplitr [HO]
  · iexists _
    isplitr; · ipureintro; exact stored m c k f hf
    iexact Hv
  iexact HO

theorem wcast_full (c : Dev nD) : wcastTo m c 4 ⊢ iprop(wholePts c cc0_scratch3 (wcastAt m c) ∗ owesW c 0) := by
  unfold wcastTo
  iintro ⟨⟨%f, %hf, Hv⟩, HO⟩
  have : f = wcastAt m c := funext fun i => hf i (chunkOf i).isLt
  subst this
  isplitl [Hv] <;> iassumption

/-! ## The receipts -/

/-- The column blocks of the gathered block a device has after `n` receipts. -/
def gathTo (c : Dev nD) (n : ℕ) : SP F :=
  iprop((((c : Thread nD τ).loc cc0_scratch1) ↦[colsOf (heldBy c n)]{fullShare} gathAt m c) ∗ owesW c 0)

/-- The receive semaphore an offset names. -/
theorem recv_unit {off off' : Fin 1 → ℕ} (h : off = off') (p p') :
    ((cc0_scratch6.slice (Rect.unit (s := S32) off S1.size p)).squeeze S_ squeezes_S1_S_).sem
      = ((cc0_scratch6.slice (Rect.unit (s := S32) off' S1.size p')).squeeze S_ squeezes_S1_S_).sem := by
  subst h; rfl

theorem recv_step (c : Dev nD) (r : Fin 31) :
    iprop(records m K ∗ (credOf (F := F) c (kRecv (recvFrom r c)) ∗ atStart c (kRecv (recvFrom r c))) ∗ gathTo m c r.val)
      ⊢ runs c (recv bM (Memref.isWhole_whole _) gM (Memref.isWhole_whole _) cc0_scratch6 c r)
          iprop(semVal (cellAt c (kRecv (recvFrom r c))) 0 ∗ gathTo m c (r.val + 1)) := by
  unfold recv gathTo
  have hq : semOf (kRecv (recvFrom r c)) = .dma ((cc0_scratch6.slice (Rect.unit (s := S32) (k0_off5 c (k0_off5_at r).1 (k0_off5_at r).2) S1.size (k0_off5_inb c r))).squeeze S_ squeezes_S1_S_).sem := by
    exact congrArg SemLoc.dma (recv_unit (off5_eq c r).symm _ _)
  have hN : (gM.slice (Rect.unit (s := S128x4096) (k0_off6 c (k0_off6_at r).1 (k0_off6_at r).2) S128x128.size (k0_off6_inb c r)) (fun _ => rfl)).view.dmaCredit = NX := by
    unfold NX; rfl
  have h := wait_one m K c (kRecv (recvFrom r c)) _ hq (duties_recv m c (recvFrom r c) (recvFrom_ne c r)) (xAny bM)
    (gM.slice (Rect.unit (s := S128x4096) (k0_off6 c (k0_off6_at r).1 (k0_off6_at r).2) S128x128.size (k0_off6_inb c r)) (fun _ => rfl))
    ((Memref.isWhole_whole _).wordExact_slice rfl _ wordsfp8e4m3_S4096x128_S128x128_0_0)
    ((Memref.isWhole_whole _).wordExact_slice rfl _ (k0_off6_wordsfp8e4m3 c r)) hN
  iintro ⟨#HR, Hw, Hg, HO⟩
  iapply (wp_wand _ _ _) $$ [Hw HO]
  · iapply h
    isplitr; · iexact HR
    isplitl [Hw] <;> iassumption
  iintro %u ⟨⟨Hpay, Hz⟩, HO⟩
  ihave Hp := (show payAt m c 0 (some (kRecv (recvFrom r c))) ⊢ colPts c (recvFrom r c) (gathAt m c) from BI.Entails.refl _) $$ Hpay
  isplitl [Hz]; · iexact Hz
  isplitr [HO]
  · rw [heldBy_succ, colsOf_insert]
    iapply (pointsTo_union (colSet_disjoint (recvFrom_not_held c r))).mpr
    unfold colPts
    isplitl [Hp] <;> iassumption
  iexact HO

/-! ## The products -/

/-- What a phase keeps: the cast weights, and the accumulator after `n` phases. -/
def accTo (c : Dev nD) (n : ℕ) : SP F :=
  iprop(wholePts c cc0_scratch3 (wcastAt m c) ∗ wholePts c cc0_scratch4 (accAt m c n))

theorem accumulate_step (c : Dev nD) (a : Fin 4) :
    iprop(gathTo m c (7 + 8 * a.val) ∗ accTo m c a.val)
      ⊢ runs c (accumulate gM vM aM c a) iprop(gathTo m c (7 + 8 * a.val) ∗ accTo m c (a.val + 1)) := by
  unfold runs accumulate gathTo accTo
  simp only [Prog.lift, Prog.bind_op, Prog.bind_ret]
  iintro ⟨⟨Hg, HO⟩, Hv, Ha⟩
  iapply (wp_load 𝒱₀ (c : Thread nD τ) none Set.univ (m := aM) (Finset.subset_univ _)) $$ Ha; iintro Ha
  rw [read_acc]
  iapply (wp_load_rect 𝒱₀ (c : Thread nD τ) none Set.univ (m := gM)
    (r := Rect.unit (s := S128x4096) (k0_off7 c (BitVec.ofNat 32 a.val)) S128x1024.size (k0_off7_inb c a)) (S := colsOf (heldBy c (7 + 8 * a.val)))
    ((Finset.subset_of_eq (View.set_slice_whole cc0_scratch1 _)).trans (group_subset c a (k0_off7_inb c a)))) $$ Hg; iintro Hg
  iapply (wp_load 𝒱₀ (c : Thread nD τ) none Set.univ (m := vM) (Finset.subset_univ _)) $$ Hv; iintro Hv
  iapply (wp_load 𝒱₀ (c : Thread nD τ) none Set.univ (m := aM) (Finset.subset_univ _)) $$ Ha; iintro Ha
  iapply (wp_store 𝒱₀ (c : Thread nD τ) none Set.univ (m := aM) (r := rOut) (Mk := Finset.univ) (Finset.subset_univ _)) $$ Ha; iintro Ha
  rw [write_acc, wp_ret, accAt_succ]
  imodintro
  isplitl [Hg HO]
  · isplitl [Hg] <;> iassumption
  isplitl [Hv]; · iexact Hv
  iexact Ha

/-- What receipt `r` takes. -/
def recvIn (c : Dev nD) (r : Fin 31) : SP F := iprop(credOf c (kRecv (recvFrom r c)) ∗ atStart c (kRecv (recvFrom r c)))
/-- What it leaves. -/
def recvOut (c : Dev nD) (r : Fin 31) : SP F := semVal (cellAt c (kRecv (recvFrom r c))) 0

/-- The receipts `o`, …, `o + n - 1`. -/
theorem receipts_step (c : Dev nD) (o n : ℕ) (h : o + n ≤ 31) :
    iprop(records m K ∗ (bigSep Finset.univ fun b : Fin n => recvIn (F := F) c ⟨o + b.val, by omega⟩) ∗ gathTo m c o)
      ⊢ runs c (seqF n fun b => recv bM (Memref.isWhole_whole _) gM (Memref.isWhole_whole _) cc0_scratch6 c ⟨o + b.val, by omega⟩)
          iprop((bigSep Finset.univ fun b : Fin n => recvOut (F := F) c ⟨o + b.val, by omega⟩) ∗ gathTo m c (o + n)) :=
  wp_seqF n _ (fun b : Fin n => recvIn c ⟨o + b.val, by omega⟩) (fun b => recvOut c ⟨o + b.val, by omega⟩) (fun j => gathTo m c (o + j))
    fun b => recv_step m K c ⟨o + b.val, by omega⟩

theorem phase0_step (c : Dev nD) :
    iprop(records m K ∗ (bigSep Finset.univ fun b : Fin 7 => recvIn (F := F) c ⟨0 + b.val, by omega⟩) ∗ gathTo m c 0 ∗ accTo m c 0)
      ⊢ runs c (phase0 bM (Memref.isWhole_whole _) gM (Memref.isWhole_whole _) vM aM cc0_scratch6 c)
          iprop((bigSep Finset.univ fun b : Fin 7 => recvOut (F := F) c ⟨0 + b.val, by omega⟩) ∗ gathTo m c 7 ∗ accTo m c 1) := by
  have e : (fun b : Fin 7 => recv (F := F) bM (Memref.isWhole_whole _) gM (Memref.isWhole_whole _) cc0_scratch6 c ⟨b.val, by omega⟩)
      = fun b => recv bM (Memref.isWhole_whole _) gM (Memref.isWhole_whole _) cc0_scratch6 c ⟨0 + b.val, by omega⟩ := by
    funext b; congr 1; exact Fin.ext (Nat.zero_add _).symm
  unfold phase0
  rw [e]
  iintro ⟨#HR, Hp, Hg, Ha⟩
  iapply (runs_then (show _ ⊢ runs c _ iprop(_ ∗ gathTo m c 7) from receipts_step m K c 0 7 (by decide))) $$ [Hp Hg]
  · isplitr; · iexact HR
    isplitl [Hp] <;> iassumption
  iintro ⟨Hq, Hg⟩
  iapply (wp_wand _ _ _) $$ [Hg Ha]
  · iapply (show iprop(gathTo m c 7 ∗ accTo m c 0) ⊢ runs c (accumulate gM vM aM c 0) iprop(gathTo m c 7 ∗ accTo m c 1) from accumulate_step m c 0)
    isplitl [Hg] <;> iassumption
  iintro %u ⟨Hg, Ha⟩
  isplitl [Hq]; · iexact Hq
  isplitl [Hg] <;> iassumption

theorem phase_step (c : Dev nD) (a : Fin 3) :
    iprop(records m K ∗ (bigSep Finset.univ fun b : Fin 8 => recvIn (F := F) c ⟨7 + 8 * a.val + b.val, by omega⟩)
        ∗ gathTo m c (7 + 8 * a.val) ∗ accTo m c (a.val + 1))
      ⊢ runs c (phase bM (Memref.isWhole_whole _) gM (Memref.isWhole_whole _) vM aM cc0_scratch6 c a)
          iprop((bigSep Finset.univ fun b : Fin 8 => recvOut (F := F) c ⟨7 + 8 * a.val + b.val, by omega⟩)
            ∗ gathTo m c (7 + 8 * (a.val + 1)) ∗ accTo m c (a.val + 1 + 1)) := by
  unfold phase
  iintro ⟨#HR, Hp, Hg, Ha⟩
  iapply (runs_then (show _ ⊢ runs c _ iprop(_ ∗ gathTo m c (7 + 8 * (a.val + 1))) from receipts_step m K c (7 + 8 * a.val) 8 (by omega))) $$ [Hp Hg]
  · isplitr; · iexact HR
    isplitl [Hp] <;> iassumption
  iintro ⟨Hq, Hg⟩
  iapply (wp_wand _ _ _) $$ [Hg Ha]
  · iapply (show iprop(gathTo m c (7 + 8 * (a.val + 1)) ∗ accTo m c (a.val + 1))
        ⊢ runs c (accumulate gM vM aM c a.succ) iprop(gathTo m c (7 + 8 * (a.val + 1)) ∗ accTo m c (a.val + 1 + 1)) from accumulate_step m c a.succ)
    isplitl [Hg] <;> iassumption
  iintro %u ⟨Hg, Ha⟩
  isplitl [Hq]; · iexact Hq
  isplitl [Hg] <;> iassumption

/-! ## The transfers read out -/

theorem sent_step (c : Dev nD) (r : Fin 31) :
    iprop(records m K ∗ (credOf (F := F) c (kSend r) ∗ atStart c (kSend r)) ∗ owesW c 0)
      ⊢ runs c (sent bM (Memref.isWhole_whole _) gM (Memref.isWhole_whole _) cc0_scratch5 r)
          iprop((rowPts m c (sendTo r c) ∗ semVal (cellAt c (kSend r)) 0) ∗ owesW c 0) :=
  wait_one m K c (kSend r) (sendSem cc0_scratch5 r) rfl (duties_at m c (kSend r)) (gAny gM) (xAny bM) _ _ rfl

end Cert.KernelIdeal

end
-- ==== Proof.Body.lean ====
/- The body on one device, stretch by stretch. -/
module

public import proofs.«01_k».proof.Proof.Locals
public import Idealize.ShloMosaic.Lib.Ring

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (K : Dev nD × Kind → ℕ)

/-! ## Buffers by blocks -/

theorem bigSep_others (c : Dev nD) (Φ : Dev nD → SP F) : bigSep Finset.univ Φ = iprop(Φ c ∗ bigSep (others c) Φ) := bigSep_univ_at Φ c

/-- Over all kinds of cells. -/
theorem bigSep_kind (Φ : Kind → SP F) :
    bigSep Finset.univ Φ = iprop(Φ kBar ∗ Φ kSpare ∗ Φ kOwn ∗ (bigSep Finset.univ fun r => Φ (kSend r)) ∗ (bigSep Finset.univ fun s => Φ (kRecv s))
      ∗ bigSep Finset.univ fun k => Φ (kChunk k)) := by
  have hu (Ψ : Unit → SP F) : bigSep Finset.univ Ψ = Ψ () := by
    rw [show (Finset.univ : Finset Unit) = {()} from rfl, bigSep_singleton]
  rw [bigSep_univ_sum, bigSep_univ_sum, bigSep_univ_sum, bigSep_univ_sum, bigSep_univ_sum, hu, hu, hu]
  rfl

/-- A buffer whose elements are sorted into blocks is held block by block. -/
theorem by_blocks {B : Type} [Fintype B] [DecidableEq B] (ℓ : Loc nD τ sig) (I : B → Finset (Idx ℓ)) (π : Idx ℓ → B)
    (h : ∀ i p, i ∈ I p ↔ π i = p) (f : Buf (Elt F) ℓ) : (ℓ ↦{fullShare} f : SP F) = bigSep Finset.univ fun p => ℓ ↦[I p]{fullShare} f :=
  Ring.pointsTo_blocks I (fun p q hpq => Finset.disjoint_left.mpr fun i hp hq => hpq (((h i p).mp hp).symm.trans ((h i q).mp hq)))
    (Finset.eq_univ_iff_forall.mpr fun i => Finset.mem_biUnion.mpr ⟨π i, Finset.mem_univ _, (h i _).mpr rfl⟩) f

theorem rows_split (c : Dev nD) :
    wholePts c cc0_scratch0 (castAt m c) = iprop(rowPts m c c ∗ bigSep Finset.univ fun r : Fin 31 => rowPts m c (sendTo r c)) := by
  rw [← bigSep_sendTo c (fun p => rowPts m c p), ← bigSep_others c (fun p => rowPts m c p)]
  exact by_blocks ((c : Thread nD τ).loc cc0_scratch0) (fun p : Dev nD => rowSet p) rowDev (fun i p => mem_rowSet) _
theorem cols_split (c : Dev nD) (f) :
    wholePts c cc0_scratch1 f = iprop(colPts (F := F) c c f ∗ bigSep Finset.univ fun r : Fin 31 => colPts c (sigTo r c) f) := by
  rw [← bigSep_sigTo c (fun p => colPts c p f), ← bigSep_others c (fun p => colPts c p f)]
  exact by_blocks ((c : Thread nD τ).loc cc0_scratch1) (fun p : Dev nD => colSet p) colDev (fun i p => mem_colSet) _
theorem chunks_split (c : Dev nD) (f) : wholePts c cc0_scratch2 f = bigSep Finset.univ fun k : Fin 4 => chunkPts (F := F) c k f :=
  by_blocks ((c : Thread nD τ).loc cc0_scratch2) (fun p : Fin 4 => chunkSet p) chunkOf (fun i p => mem_chunkSet) _
theorem hbm_split (c : Dev nD) : wholePts c main_arg1 (wAt m c) = bigSep Finset.univ fun k : Fin 4 => hbmPts m c k :=
  by_blocks ((c : Thread nD τ).loc main_arg1) (fun p : Fin 4 => chunkSet p) chunkOf (fun i p => mem_chunkSet) _

theorem colPts_some (d s : Dev nD) (f) : colPts (F := F) d s f ⊢ iprop(∃ f, colPts (F := F) d s f) := by
  iintro H; iexists f; iexact H
theorem chunkPts_some (c : Dev nD) (k : Fin 4) (f) : chunkPts (F := F) c k f ⊢ iprop(∃ f, chunkPts (F := F) c k f) := by
  iintro H; iexists f; iexact H

theorem gath_first (c : Dev nD) : iprop(colPts c c (gathAt m c) ∗ owesW c 0) = gathTo m c 0 := by
  unfold colPts gathTo
  rw [heldBy_zero, colsOf_singleton]
theorem gath_last (c : Dev nD) : gathTo m c (7 + 8 * 3) = iprop(wholePts c cc0_scratch1 (gathAt m c) ∗ owesW c 0) := by
  unfold gathTo
  rw [show 7 + 8 * 3 = 31 from rfl, heldBy_all, colsOf_univ]

/-- The receipts, phase by phase. -/
def ofPhases : Fin 7 ⊕ Fin 3 × Fin 8 → Fin 31
  | .inl b => ⟨0 + b.val, by omega⟩
  | .inr ab => ⟨7 + 8 * ab.1.val + ab.2.val, by omega⟩
theorem ofPhases_bijective : Function.Bijective ofPhases := by
  constructor
  · rintro (a | ⟨a, b⟩) (a' | ⟨a', b'⟩) h <;> simp only [ofPhases, Fin.mk.injEq] at h
    · exact congrArg _ (Fin.ext (by omega))
    · omega
    · omega
    · have h1 : a = a' := Fin.ext (by omega)
      subst h1
      have h2 : b = b' := Fin.ext (by omega)
      subst h2; rfl
  · intro r
    by_cases h : r.val < 7
    · exact ⟨.inl ⟨r.val, h⟩, Fin.ext (Nat.zero_add _)⟩
    · exact ⟨.inr (⟨(r.val - 7) / 8, by omega⟩, ⟨(r.val - 7) % 8, by omega⟩), Fin.ext (by show 7 + 8 * ((r.val - 7) / 8) + (r.val - 7) % 8 = r.val; omega)⟩
theorem bigSep_phases (Φ : Fin 31 → SP F) :
    bigSep Finset.univ Φ = iprop((bigSep Finset.univ fun b : Fin 7 => Φ ⟨0 + b.val, by omega⟩)
      ∗ bigSep Finset.univ fun a : Fin 3 => bigSep Finset.univ fun b : Fin 8 => Φ ⟨7 + 8 * a.val + b.val, by omega⟩) := by
  rw [bigSep_univ_equiv (Equiv.ofBijective ofPhases ofPhases_bijective), bigSep_univ_sum, bigSep_univ_prod]
  rfl

/-- A scale's one element. -/
abbrev rScale : Rect S1 := Rect.unit (s := S1) ![0] S1.size inb_S1_S1_0

/-! ## What the body takes and gives -/

/-- The tokens of the duties device `c` does. -/
def tokens (c : Dev nD) : SP F :=
  iprop((bigSep Finset.univ fun r : Fin 31 => dutyTok ER (cellAt (sigTo r c) kBar) 0 c)
    ∗ (bigSep Finset.univ fun r : Fin 31 => dutyTok ER (cellAt (sendTo r c) (kRecv c)) 0 (0 : Dev nD))
    ∗ (bigSep Finset.univ fun r : Fin 31 => dutyTok ER (cellAt c (kSend r)) 0 (0 : Dev nD))
    ∗ dutyTok ER (cellAt c kOwn) 0 (0 : Dev nD)
    ∗ bigSep Finset.univ fun k : Fin 4 => dutyTok ER (cellAt c (kChunk k)) 0 (0 : Dev nD))

/-- What device `c` starts with, beside its buffers. -/
def ghost (c : Dev nD) : SP F :=
  iprop((bigSep Finset.univ fun k : Kind => atStart (F := F) c k) ∗ tokens c ∗ cred (tallyAt (cellAt c kBar) () 31)
    ∗ bigSep (others c) fun s => credOf (F := F) c (kRecv s))

/-- The scratch buffers, at any contents. -/
def scratches (c : Dev nD) : SP F :=
  iprop((∃ f, wholePts (F := F) c cc0_scratch0 f) ∗ (∃ f, wholePts (F := F) c cc0_scratch1 f) ∗ (∃ f, wholePts (F := F) c cc0_scratch2 f)
    ∗ (∃ f, wholePts (F := F) c cc0_scratch3 f) ∗ (∃ f, wholePts (F := F) c cc0_scratch4 f))

/-- The counters of all of a device's cells, at zero. -/
def counters (c : Dev nD) : SP F := bigSep Finset.univ fun k : Kind => semVal (cellAt c k) 0

def bodyPre (c : Dev nD) : SP F :=
  iprop(ghost c ∗ scratches c ∗ wholePts c main_arg1 (wAt m c) ∗ owesW c (O₀ c)
    ∗ wholePts c cc0_stg0_0 (xAt m c) ∗ wholePts c cc0_stg1_0 (sxAt m c) ∗ wholePts c cc0_stg2_0 (syAt m c) ∗ ∃ f, wholePts (F := F) c cc0_stg3_0 f)

def bodyPost (c : Dev nD) : SP F :=
  iprop(counters c ∗ scratches c ∗ wholePts c main_arg1 (wAt m c) ∗ owesW c 0
    ∗ wholePts c cc0_stg0_0 (xAt m c) ∗ wholePts c cc0_stg1_0 (sxAt m c) ∗ wholePts c cc0_stg2_0 (syAt m c) ∗ wholePts c cc0_stg3_0 (outAt m c))

abbrev theBody : Stretch F :=
  loopBody xM hM sxM syM oM bM (Memref.isWhole_whole _) gM (Memref.isWhole_whole _) wM vM (Memref.isWhole_whole _) aM
    cc0_scratch5 cc0_scratch6 cc0_scratch7 cc0_scratch8

set_option maxHeartbeats 1600000 in
theorem sound_body (c : Dev nD) : iprop((records m K ∗ levAts L lv) ∗ bodyPre m c) ⊢ runs c theBody (bodyPost m c) := by
  unfold theBody loopBody runs
  simp only [Prog.lift, Prog.bind_op, Prog.bind_ret, wp_deviceId]
  unfold bodyPre ghost tokens scratches
  rw [bigSep_kind]
  iintro ⟨⟨#HR, #Hlev⟩, ⟨⟨HaB, HaSp, HaO, HaS, HaR, HaK⟩, ⟨HtB, HtR, HtS, HtO, HtK⟩, HcB, HcR⟩, ⟨Hb, ⟨%fg, Hg⟩, ⟨%fw, Hw⟩, Hv, Ha⟩, Hh, HO, Hx, Hsx, Hsy, Ho⟩
  -- the cast
  iapply (runs_do (castX_step m c)) $$ [Hx Hb]
  · isplitl [Hx] <;> iassumption
  iintro ⟨Hx, Hb⟩
  -- the signals
  ihave Hg' := (Entails.of_eq (cols_split c fg)) $$ Hg
  icases Hg' with ⟨Hgo, Hgs⟩
  iapply (runs_do (wp_seqF (B := records m K) 31 _
    (fun r : Fin 31 => iprop(dutyTok ER (cellAt (sigTo r c) kBar) 0 c ∗ ∃ f, colPts (F := F) c (sigTo r c) f)) (fun _ => iprop(emp))
    (fun n => owesW c (duesFrom (dueSend c) 0 + duesFrom (dueSig c) n)) (signal_step m K c))) $$ [HtB Hgs HO]
  · isplitr; · iexact HR
    isplitr [HO]
    · rw [bigSep_sep']
      isplitl [HtB]; · iexact HtB
      iapply (each fun r => colPts_some c (sigTo r c) fg)
      iexact Hgs
    iexact HO
  iintro ⟨-, HO⟩
  rw [duesFrom_end, add_zero]
  -- the starts of the weights' copies
  ihave Hw' := (Entails.of_eq (chunks_split c fw)) $$ Hw
  ihave Hh' := (Entails.of_eq (hbm_split m c)) $$ Hh
  iapply (runs_do (wp_seqF (B := records m K) 4 _
    (fun k : Fin 4 => iprop(dutyTok ER (cellAt c (kChunk k)) 0 0 ∗ hbmPts m c k ∗ ∃ f, chunkPts (F := F) c k f)) (fun k => credOf c (kChunk k))
    (fun _ => iprop(emp)) (startW_step m K c))) $$ [HtK Hh' Hw']
  · isplitr; · iexact HR
    isplitl
    · rw [bigSep_sep', bigSep_sep']
      isplitl [HtK]; · iexact HtK
      isplitl [Hh']; · iexact Hh'
      iapply (each fun k => chunkPts_some c k fw)
      iexact Hw'
    iempintro
  iintro ⟨HcK, -⟩
  -- the barrier
  iapply (runs_do (wait_bar m K c)) $$ [HcB HaB HO]
  · isplitr; · iexact HR
    isplitr; · iexact Hlev
    isplitl [HcB]; · iexact HcB
    isplitl [HaB] <;> iassumption
  iintro ⟨Hgs, HzB, HO⟩
  -- the transfers
  ihave Hb' := (Entails.of_eq (rows_split m c)) $$ Hb
  icases Hb' with ⟨Hbo, Hbs⟩
  iapply (runs_do (wp_seqF (B := records m K) 31 _
    (fun r : Fin 31 => iprop(rowPts m c (sendTo r c) ∗ (∃ f, colPts (F := F) (sendTo r c) c f)
          ∗ dutyTok ER (cellAt c (kSend r)) 0 0 ∗ dutyTok ER (cellAt (sendTo r c) (kRecv c)) 0 0)) (fun r => credOf c (kSend r))
    (fun n => owesW c (duesFrom (dueSend c) n)) (send_step m K c))) $$ [Hbs Hgs HtS HtR HO]
  · isplitr; · iexact HR
    isplitr [HO]
    · rw [bigSep_sep', bigSep_sep', bigSep_sep']
      isplitl [Hbs]; · iexact Hbs
      isplitl [Hgs]; · iexact Hgs
      isplitl [HtS] <;> iassumption
    iexact HO
  iintro ⟨HcS, HO⟩
  rw [duesFrom_end]
  -- the own rows
  iapply (runs_do (startOwn_step m K c)) $$ [Hbo Hgo HtO]
  · isplitr; · iexact HR
    isplitl [Hbo]; · iexact Hbo
    isplitl [Hgo]; · iexists fg; iexact Hgo
    iexact HtO
  iintro HcO
  -- the weights
  iapply (runs_do (wp_seqF (B := records m K) 4 _ (fun k : Fin 4 => iprop(credOf (F := F) c (kChunk k) ∗ atStart c (kChunk k)))
    (fun k => iprop((chunkPts c k (wAt m c) ∗ hbmPts m c k) ∗ semVal (cellAt c (kChunk k)) 0)) (wcastTo m c) (castW_step m K c))) $$ [HcK HaK Hv HO]
  · isplitr; · iexact HR
    isplitl [HcK HaK]
    · rw [bigSep_sep']
      isplitl [HcK] <;> iassumption
    unfold wcastTo
    isplitl [Hv]
    · icases Hv with ⟨%f, Hv⟩
      iexists f
      isplitr; · ipureintro; exact fun i h => absurd h (Nat.not_lt_zero _)
      iexact Hv
    iexact HO
  iintro ⟨Hks, Hv⟩
  ihave Hks' := (Entails.of_eq (bigSep_sep' _ (fun k : Fin 4 => iprop(chunkPts c k (wAt m c) ∗ hbmPts m c k)) _)) $$ Hks
  icases Hks' with ⟨Hks, HzK⟩
  ihave Hks' := (Entails.of_eq (bigSep_sep' _ (fun k : Fin 4 => chunkPts c k (wAt m c)) (fun k => hbmPts m c k))) $$ Hks
  icases Hks' with ⟨Hw, Hh⟩
  ihave Hv' := (wcast_full m c) $$ Hv
  icases Hv' with ⟨Hv, HO⟩
  -- the own rows' arrival
  iapply (runs_op (wait_one m K c kOwn cc0_scratch8.sem rfl (duties_at m c kOwn) (ownSrc bM c) (xDst gM c) _ _ rfl)) $$ [HcO HaO HO]
  · isplitr; · iexact HR
    isplitr [HO]
    · isplitl [HcO] <;> iassumption
    iexact HO
  iintro ⟨⟨Hpay, HzO⟩, HO⟩
  ihave Hp := (show payAt m c 0 (some kOwn) ⊢ iprop(colPts c c (gathAt m c) ∗ rowPts m c c) from BI.Entails.refl _) $$ Hpay
  icases Hp with ⟨Hgo, Hbo⟩
  -- the scales, the accumulator
  unfold runs
  simp only [smemLoad, Prog.lift, Prog.bind_op, Prog.bind_ret, smemLoadElt]
  iapply (wp_load_rect 𝒱₀ (c : Thread nD τ) none Set.univ (m := sxM) (r := rScale) (Finset.subset_univ _)) $$ Hsx; iintro Hsx
  iapply (wp_load_rect 𝒱₀ (c : Thread nD τ) none Set.univ (m := syM) (r := rScale) (Finset.subset_univ _)) $$ Hsy; iintro Hsy
  icases Ha with ⟨%fa, Ha⟩
  iapply (wp_load 𝒱₀ (c : Thread nD τ) none Set.univ (m := aM) (Finset.subset_univ _)) $$ Ha; iintro Ha
  iapply (wp_store 𝒱₀ (c : Thread nD τ) none Set.univ (m := aM) (r := rOut) (Mk := Finset.univ) (Finset.subset_univ _)) $$ Ha; iintro Ha
  rw [write_acc]
  -- the phases
  ihave HaR' := (Entails.of_eq ((bigSep_others c (fun s => atStart (F := F) c (kRecv s))).trans
    (congrArg (fun X => iprop(atStart (F := F) c (kRecv c) ∗ X)) (bigSep_recvFrom c fun s => atStart (F := F) c (kRecv s))))) $$ HaR
  icases HaR' with ⟨HaRo, HaR⟩
  ihave HcR' := (Entails.of_eq (bigSep_recvFrom c fun s => credOf (F := F) c (kRecv s))) $$ HcR
  ihave Hin := (Entails.of_eq ((bigSep_sep' _ _ _).symm.trans (bigSep_phases (fun r => recvIn (F := F) c r)))) $$ [HcR' HaR]
  · isplitl [HcR'] <;> iassumption
  icases Hin with ⟨Hin0, Hin⟩
  iapply (runs_do (phase0_step m K c)) $$ [Hin0 Hgo HO Hv Ha]
  · isplitr; · iexact HR
    isplitl [Hin0]; · iexact Hin0
    isplitl [Hgo HO]
    · iapply (Entails.of_eq (gath_first m c))
      isplitl [Hgo] <;> iassumption
    unfold accTo
    isplitl [Hv]; · iexact Hv
    iexact Ha
  iintro ⟨Hout0, Hg, Ha⟩
  iapply (runs_do (wp_seqF (B := records m K) 3 _ (fun a : Fin 3 => bigSep Finset.univ fun b : Fin 8 => recvIn (F := F) c ⟨7 + 8 * a.val + b.val, by omega⟩)
    (fun a : Fin 3 => bigSep Finset.univ fun b : Fin 8 => recvOut (F := F) c ⟨7 + 8 * a.val + b.val, by omega⟩)
    (fun n => iprop(gathTo m c (7 + 8 * n) ∗ accTo m c (n + 1))) (phase_step m K c))) $$ [Hin Hg Ha]
  · isplitr; · iexact HR
    isplitl [Hin]; · iexact Hin
    isplitl [Hg] <;> iassumption
  rw [gath_last]
  unfold accTo
  iintro ⟨Hout, ⟨Hg, HO⟩, Hv, Ha⟩
  -- the result
  icases Ho with ⟨%fo, Ho⟩
  unfold runs
  iapply (wp_load 𝒱₀ (c : Thread nD τ) none Set.univ (m := aM) (Finset.subset_univ _)) $$ Ha; iintro Ha
  rw [read_acc]
  iapply (wp_load 𝒱₀ (c : Thread nD τ) none Set.univ (m := oM) (Finset.subset_univ _)) $$ Ho; iintro Ho
  iapply (wp_store 𝒱₀ (c : Thread nD τ) none Set.univ (m := oM) (r := rOut) (Mk := Finset.univ) (Finset.subset_univ _)) $$ Ho; iintro Ho
  rw [write_out]
  -- the cells of no duty close
  imod (close_unused m K c kSpare (duties_at m c kSpare)) $$ [HaSp] with HzSp
  · isplitr; · iexact HR
    iexact HaSp
  imod (close_unused m K c (kRecv c) (duties_recv_self m c)) $$ [HaRo] with HzRo
  · isplitr; · iexact HR
    iexact HaRo
  -- the transfers read out
  iapply (wp_wand _ _ _) $$ [HcS HaS HO]
  · iapply (wp_seqF (B := records m K) 31 _ (fun r : Fin 31 => iprop(credOf (F := F) c (kSend r) ∗ atStart c (kSend r)))
      (fun r => iprop(rowPts m c (sendTo r c) ∗ semVal (cellAt c (kSend r)) 0)) (fun _ => owesW c 0) (sent_step m K c))
    isplitr; · iexact HR
    isplitr [HO]
    · rw [bigSep_sep']
      isplitl [HcS] <;> iassumption
    iexact HO
  rw [bigSep_sep']
  iintro %u ⟨⟨Hbs, HzS⟩, HO⟩
  unfold bodyPost counters scratches
  rw [bigSep_kind, bigSep_others c (fun s => semVal (cellAt c (kRecv s)) 0), bigSep_recvFrom c (fun s => semVal (cellAt c (kRecv s)) 0),
    hbm_split]
  isplitl [HzB HzSp HzO HzS HzRo Hout0 Hout HzK]
  · isplitl [HzB]; · iexact HzB
    isplitl [HzSp]; · iexact HzSp
    isplitl [HzO]; · iexact HzO
    isplitl [HzS]; · iexact HzS
    isplitl [HzRo Hout0 Hout]
    · isplitl [HzRo]; · iexact HzRo
      iapply (Entails.of_eq (bigSep_phases (fun r => recvOut (F := F) c r)).symm)
      isplitl [Hout0] <;> iassumption
    iexact HzK
  isplitl [Hbo Hbs Hg Hw Hv Ha]
  · isplitl [Hbo Hbs]
    · iexists _
      iapply (Entails.of_eq (rows_split m c).symm)
      isplitl [Hbo] <;> iassumption
    isplitl [Hg]; · iexists _; iexact Hg
    isplitl [Hw]
    · iexists _
      iapply (Entails.of_eq (chunks_split c (wAt m c)).symm); iexact Hw
    isplitl [Hv]; · iexists _; iexact Hv
    iexists _; iexact Ha
  isplitl [Hh]; · iexact Hh
  isplitl [HO]; · iexact HO
  isplitl [Hx]; · iexact Hx
  isplitl [Hsx]; · iexact Hsx
  isplitl [Hsy]; · iexact Hsy
  iexact Ho

end Cert.KernelIdeal

end
-- ==== Proof.Launch.lean ====
/- The launch: the cells and their tokens dealt to the devices, and the run of `main`. -/
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The scoped semaphores -/

/-- The cells but the barrier. -/
abbrev Own : Type := Unit ⊕ (Unit ⊕ (Fin 31 ⊕ (Dev nD ⊕ Fin 4)))
/-- The kernel's own semaphores: those after the staging ones. -/
abbrev osem (i : Fin 69) : SemLoc sig := .dma ⟨4 + i.val, by have := i.isLt; show 4 + i.val < 73; omega⟩
/-- Where a cell is among them. -/
def ownAt : Own → Fin 69
  | .inl _ => 0
  | .inr (.inl _) => 68
  | .inr (.inr (.inl r)) => ⟨1 + r.val, by omega⟩
  | .inr (.inr (.inr (.inl s))) => ⟨32 + s.val, by have : s.val < 32 := s.isLt; omega⟩
  | .inr (.inr (.inr (.inr k))) => ⟨64 + k.val, by omega⟩

theorem osem_ownAt : ∀ o : Own, osem (ownAt o) = semOf (.inr o) := by
  rintro (_ | _ | r | s | k)
  · rfl
  · rfl
  · fin_cases r <;> rfl
  · fin_cases s <;> rfl
  · fin_cases k <;> rfl
theorem ownAt_bijective : Function.Bijective ownAt := by
  rw [Fintype.bijective_iff_injective_and_card]
  refine ⟨fun o o' h => ?_, by rfl⟩
  have := congrArg osem h
  rw [osem_ownAt, osem_ownAt] at this
  exact Sum.inr_injective (semOf_injective this)

theorem staged_sem (w : Fin cfg0.W) (s) : ((cfg0.spec w).sem s).val < 4 := by
  revert s; fin_cases w <;> (intro s; fin_cases s; decide)

theorem ownSemFacts : Pipeline.OwnSemFacts cfg0.spec osem where
  isScoped := by decide
  inj := fun i j h => Fin.ext (by
    have := congrArg (fun s : SemLoc sig => match s with | .dma q => q.val | .reg _ => 0) h
    have h' : 4 + i.val = 4 + j.val := this
    omega)
  disj := fun i w s h => by
    have := congrArg (fun s : SemLoc sig => match s with | .dma q => q.val | .reg _ => 0) h
    have h' : 4 + i.val = ((cfg0.spec w).sem s).val := this
    have h4 : ((cfg0.spec w).sem s).val < 4 := staged_sem w s
    omega

theorem counters_eq (c : Dev nD) :
    (counters c : SP F) = iprop(unscopedSems0 c ∗ Pipeline.ownSems0 osem c) := by
  have h1 : (unscopedSems0 c : SP F) = semVal (cellAt c kBar) 0 := by
    unfold unscopedSems0; rw [bigSep_eq_bigSepL_of_eq [SemLoc.reg barS] (by decide) (by decide)]; rfl
  unfold counters Pipeline.ownSems0
  rw [h1, bigSep_univ_sum, bigSep_univ_equiv (Equiv.ofBijective ownAt ownAt_bijective)]
  refine congrArg₂ (fun X Y : SP F => iprop(X ∗ Y)) ?_ (bigSep_congr fun o _ => ?_)
  · rw [show (Finset.univ : Finset Unit) = {()} from rfl, bigSep_singleton]
  · show semVal ((c : Thread nD τ), semOf (.inr o)) 0 = semVal ((c : Thread nD τ), osem (ownAt o)) 0
    rw [osem_ownAt]

/-! ## The launch credit -/

theorem sum_tour (c : Dev nD) (σ : Fin 31 → Dev nD) (hi : ∀ r r', σ r = σ r' → r = r') (hne : ∀ r, σ r ≠ c) (f : Dev nD → ℕ) :
    ∑ r, f (σ r) = ∑ p ∈ others c, f p := by
  rw [tour c σ (fun r r' => hi r r') hne, Finset.sum_map]; rfl

theorem dues_apply (due : Fin 31 → CellTallies nD τ sig Unit) (g : GSem nD τ sig) : duesFrom due 0 g () = ∑ r, due r g () := by
  unfold duesFrom
  rw [Finset.sum_apply, Finsupp.finsetSum_apply, Finset.filter_true_of_mem fun r _ => Nat.zero_le _]

theorem tally_cell (c c' : Dev nD) (k k' : Kind) (n : ℕ) : tallyAt (cellAt c' k') () n (cellAt c k) () = if c' = c ∧ k' = k then n else 0 := by
  rw [tallyAt_apply]
  by_cases h : c' = c ∧ k' = k
  · obtain ⟨rfl, rfl⟩ := h; rw [if_pos ⟨rfl, rfl⟩, if_pos ⟨rfl, rfl⟩]
  · rw [if_neg h, if_neg fun h' => h ⟨(cellAt_inj h'.1).1.symm, (cellAt_inj h'.1).2.symm⟩]

theorem owed_bar (d c : Dev nD) : O₀ d (cellAt c kBar) () = if c ∈ others d then 1 else 0 := by
  unfold O₀
  rw [Pi.add_apply, Finsupp.add_apply, dues_apply, dues_apply, Finset.sum_eq_zero fun r _ => ?_, Nat.zero_add,
    Finset.sum_congr rfl fun r _ => ?_, sum_tour d (fun r => sigTo r d) (sigTo_inj d) (sigTo_ne d) (fun p => if p = c then 1 else 0), Finset.sum_ite_eq']
  · unfold dueSig; rw [tally_cell]; simp
  · unfold dueSend; rw [tally_cell, if_neg fun h => by cases h.2]
theorem owed_recv (d c s : Dev nD) : O₀ d (cellAt c (kRecv s)) () = if d = s ∧ c ∈ others d then NX else 0 := by
  unfold O₀
  rw [Pi.add_apply, Finsupp.add_apply, dues_apply, dues_apply, Finset.sum_eq_zero (f := fun r => dueSig d r _ _) fun r _ => ?_, Nat.add_zero,
    Finset.sum_congr rfl fun r _ => ?_, sum_tour d (fun r => sendTo r d) (sendTo_inj d) (sendTo_ne d) (fun p => if p = c then (if d = s then NX else 0) else 0),
    Finset.sum_ite_eq']
  · by_cases h : c ∈ others d <;> by_cases h' : d = s <;> simp [h, h']
  · unfold dueSend; rw [tally_cell]
    by_cases h : sendTo r d = c <;> by_cases h' : d = s
    · rw [if_pos ⟨h, by rw [h']⟩, if_pos h, if_pos h']
    · rw [if_neg fun x => h' (by injection x.2 with x; injection x with x; injection x with x; injection x with x; injection x), if_pos h, if_neg h']
    · rw [if_neg fun x => h x.1, if_neg h]
    · rw [if_neg fun x => h x.1, if_neg h]
  · unfold dueSig; rw [tally_cell, if_neg fun h => by cases h.2]

theorem launch_at (c : Dev nD) (k : Kind) (n : ℕ) (h : ∑ d, O₀ d (cellAt c k) () = n) :
    tallyOn (cellAt c k) (launchCredit (Pipeline.owing O₀) 0 (cellAt c k)) = (tallyAt (cellAt c k) () n : CellTallies nD τ sig Unit) := by
  unfold tallyAt; refine congrArg _ (Finsupp.ext fun u => ?_); cases u
  rw [show (cellAt c k) = ((c : Thread nD τ), semOf k) from rfl, Pipeline.launchCredit_owing, Finsupp.single_eq_same]
  exact h
theorem launch_bar (c : Dev nD) :
    tallyOn (cellAt c kBar) (launchCredit (Pipeline.owing O₀) 0 (cellAt c kBar)) = (tallyAt (cellAt c kBar) () 31 : CellTallies nD τ sig Unit) :=
  launch_at c kBar 31 (by
    rw [Finset.sum_congr rfl fun d _ => owed_bar d c]
    revert c; decide +kernel)
theorem launch_recv (c s : Dev nD) (h : s ∈ others c) :
    tallyOn (cellAt c (kRecv s)) (launchCredit (Pipeline.owing O₀) 0 (cellAt c (kRecv s))) = (tallyAt (cellAt c (kRecv s)) () NX : CellTallies nD τ sig Unit) :=
  launch_at c (kRecv s) NX (by
    have h' : c ∈ others s := Finset.mem_erase.mpr ⟨(Finset.ne_of_mem_erase h).symm, Finset.mem_univ _⟩
    rw [Finset.sum_congr rfl fun d _ => owed_recv d c s, Finset.sum_eq_single s]
    · rw [if_pos ⟨rfl, h'⟩]
    · intro d _ hd; rw [if_neg fun x => hd x.1]
    · intro hs; exact absurd (Finset.mem_univ s) hs)

theorem recv_sem_injective : Function.Injective fun s : Dev nD => semOf (kRecv s) := fun s s' h => by
  have := semOf_injective h
  injection this with x; injection x with x; injection x with x; injection x with x; injection x

theorem creds (c : Dev nD) :
    (Pipeline.launchCred O₀ c : SP F) ⊢ iprop(cred (tallyAt (cellAt c kBar) () 31) ∗ bigSep (others c) fun s => credOf (F := F) c (kRecv s)) := by
  unfold Pipeline.launchCred
  rw [bigSep_univ_at _ (SemLoc.reg barS), show ((c.tc : Thread nD τ), SemLoc.reg barS) = cellAt c kBar from rfl, launch_bar]
  refine sep_mono_right ?_
  refine BI.Entails.trans (BI.bigSep_subset (t := (others c).map ⟨fun s => semOf (kRecv s), recv_sem_injective⟩) fun x hx => ?_) ?_
  · obtain ⟨s, -, rfl⟩ := Finset.mem_map.mp hx
    exact Finset.mem_erase.mpr ⟨fun h => (by cases h), Finset.mem_univ _⟩
  · rw [bigSep_map]
    exact bigSep_mono fun s hs => Entails.of_eq (congrArg cred (launch_recv c s hs))

/-! ## The cells and their tokens, dealt -/

/-- The protocol's cells. -/
def cellSet : Finset (GSem nD τ sig) := Finset.univ.map ⟨fun ck : Dev nD × Kind => cellAt ck.1 ck.2, cell_injective⟩
/-- A token per cell and device; those of no duty are left over. -/
abbrev tokenAt (x : (Dev nD × Kind) × Dev nD) : GSem nD τ sig × ℕ × Dev nD := (cellAt x.1.1 x.1.2, 0, x.2)
theorem tokenAt_injective : Function.Injective tokenAt := fun x y h =>
  Prod.ext (cell_injective (congrArg Prod.fst h)) (congrArg (fun z : GSem nD τ sig × ℕ × Dev nD => z.2.2) h)
def tokenSet : Finset (GSem nD τ sig × ℕ × Dev nD) := Finset.univ.map ⟨tokenAt, tokenAt_injective⟩

/-- The ghost state at launch. -/
def u₀ : UU := (initOf (Pipeline.cells cfgs cellOf_inj) (Pipeline.launchToks cfgs cellOf_inj), initOf cellSet tokenSet)

variable (m : (ℓ : Loc nD τ sig) → Buf (Elt F) ℓ)

/-- The tokens of a device's own cells. -/
def minted (c : Dev nD) (k : Kind) (d : Dev nD) : SP F := dutyTok ER (cellAt c k) 0 d

/-- What the launch deals device `c`. -/
def dealt (c : Dev nD) : SP F :=
  iprop((bigSep Finset.univ fun k : Kind => roundState ER (sched m) (cellAt c k) 0)
    ∗ (bigSep Finset.univ fun k : Kind => atStart (F := F) c k) ∗ (bigSep Finset.univ fun k : Kind => reached ER (cellAt c k) 0)
    ∗ bigSep Finset.univ fun k : Kind => bigSep Finset.univ fun d : Dev nD => minted (F := F) c k d)

theorem fund_cells : BI.own (ER (initOf cellSet tokenSet)) ⊢ (|==> bigSep Finset.univ (dealt m) : SP F) := by
  have hX (Φ : GSem nD τ sig → SP F) : bigSep cellSet Φ = bigSep Finset.univ fun c : Dev nD => bigSep Finset.univ fun k : Kind => Φ (cellAt c k) := by
    unfold cellSet; rw [bigSep_map, bigSep_univ_prod]; rfl
  have hT : bigSep tokenSet (fun x => (dutyTok ER x.1 x.2.1 x.2.2 : SP F))
      = bigSep Finset.univ fun c : Dev nD => bigSep Finset.univ fun k : Kind => bigSep Finset.univ fun d : Dev nD => minted c k d := by
    unfold tokenSet; rw [bigSep_map, bigSep_univ_prod, bigSep_univ_prod]; rfl
  iintro HX
  imod (Rounds.fund ER (sched m) cellSet tokenSet) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat']; · iexact Hat'
  isplitl [Hr']; · iexact Hr'
  iexact Htok'

/-- The counters at zero and the round states make the cells' invariants. -/
theorem alloc (c : Dev nD) :
    iprop(Pipeline.ownSems0 osem c ∗ unscopedSems0 c ∗ dealt m c)
      ⊢ (|={Set.univ}=> iprop((bigSep Finset.univ fun k : Kind => iprop(∃ κ : ℕ, cellInv ER (sched m) κ (cellAt c k)))
          ∗ (bigSep Finset.univ fun k : Kind => reached ER (cellAt c k) 0) ∗ (bigSep Finset.univ fun k : Kind => atStart (F := F) c k)
          ∗ bigSep Finset.univ fun k : Kind => bigSep Finset.univ fun d : Dev nD => minted (F := F) c k d) : SP F) := by
  unfold dealt
  iintro ⟨Hos, Hus, Hst, Hat, Hr, Htok⟩
  ihave Hv := (Entails.of_eq (counters_eq (F := F) c).symm) $$ [Hos Hus]
  · isplitl [Hus] <;> iassumption
  imod (show iprop(counters c ∗ bigSep Finset.univ fun k : Kind => roundState ER (sched m) (cellAt c k) 0)
      ⊢ (|={Set.univ}=> bigSep Finset.univ fun k => iprop(∃ κ : ℕ, cellInv ER (sched m) κ (cellAt c k)) : SP F) from by
        unfold counters
        rw [← bigSep_sep']
        exact (bigSep_mono fun k _ => (Rounds.body_intro ER (sched m) (cellAt c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem keep_others (c : Dev nD) (Φ : Dev nD → SP F) : bigSep Finset.univ Φ ⊢ bigSep (others c) Φ :=
  BI.bigSep_subset (Finset.erase_subset _ _)
theorem keep_zero (Φ : Dev nD → SP F) : bigSep Finset.univ Φ ⊢ Φ 0 := BI.bigSep_elim (Finset.mem_univ _)

/-- The tokens, from the cells they are of to the devices whose duties they are. -/
theorem deal_tokens :
    (bigSep Finset.univ fun c : Dev nD => bigSep Finset.univ fun k : Kind => bigSep Finset.univ fun d : Dev nD => minted (F := F) c k d)
      ⊢ (bigSep Finset.univ fun c : Dev nD => tokens c : SP F) := by
  have hB : (bigSep Finset.univ fun c : Dev nD => bigSep Finset.univ fun d : Dev nD => minted (F := F) c kBar d)
      ⊢ (bigSep Finset.univ fun c : Dev nD => bigSep Finset.univ fun r : Fin 31 => minted (sigTo r c) kBar c : SP F) := by
    rw [Pipeline.bigSep_univ_comm fun c d : Dev nD => minted (F := F) c kBar d]
    exact bigSep_mono fun c _ => (keep_others c _).trans (Entails.of_eq (bigSep_sigTo c fun p => minted p kBar c))
  have hR : (bigSep Finset.univ fun c : Dev nD => bigSep Finset.univ fun s : Dev nD => bigSep Finset.univ fun d : Dev nD => minted (F := F) c (kRecv s) d)
      ⊢ (bigSep Finset.univ fun c : Dev nD => bigSep Finset.univ fun r : Fin 31 => minted (sendTo r c) (kRecv c) 0 : SP F) := by
    rw [Pipeline.bigSep_univ_comm fun c s : Dev nD => bigSep Finset.univ fun d : Dev nD => minted (F := F) c (kRecv s) d]
    exact bigSep_mono fun c _ => ((bigSep_mono fun p _ => keep_zero fun d => minted p (kRecv c) d).trans (keep_others c _)).trans
      (Entails.of_eq (bigSep_sendTo c fun p => minted p (kRecv c) 0))
  unfold tokens
  rw [bigSep_congr (s := Finset.univ) fun (c : Dev nD) _ => bigSep_kind fun k => bigSep Finset.univ fun d : Dev nD => minted (F := F) c k d]
  simp only [bigSep_sep']
  iintro ⟨H1, -, H3, H4, H5, H6⟩
  isplitl [H1]; · iapply hB; iexact H1
  isplitl [H5]; · iapply hR; iexact H5
  isplitl [H4]
  · iapply (show _ ⊢ _ from bigSep_mono fun (c : Dev nD) _ => each fun r : Fin 31 => keep_zero fun d => minted (F := F) c (kSend r) d)
    iexact H4
  isplitl [H3]
  · iapply (show _ ⊢ _ from bigSep_mono fun (c : Dev nD) _ => keep_zero fun d => minted (F := F) c kOwn d)
    iexact H3
  iapply (show _ ⊢ _ from bigSep_mono fun (c : Dev nD) _ => each fun k : Fin 4 => keep_zero fun d => minted (F := F) c (kChunk k) d)
  iexact H6

/-- What a device has after the global step. -/
def share (c : Dev nD) : SP F :=
  iprop(∃ K, records m K ∗ (bigSep Finset.univ fun k : Kind => atStart (F := F) c k) ∗ tokens c)

theorem with_records {R : SP F} [BI.Persistent R] {Φ Ψ : Dev nD → SP F} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Kind => iprop(∃ κ : ℕ, cellInv ER (sched m) κ (cellAt c k)))
          ∗ (bigSep Finset.univ fun k : Kind => reached ER (cellAt c k) 0) ∗ (bigSep Finset.univ fun k : Kind => atStart (F := F) c k)
          ∗ bigSep Finset.univ fun k : Kind => bigSep Finset.univ fun d : Dev nD => minted (F := F) c k d))
      ⊢ (bigSep Finset.univ (share m) : SP F) := by
  rw [bigSep_sep', bigSep_sep', bigSep_sep', ← bigSep_univ_prod (fun ck : Dev nD × Kind => iprop(∃ κ : ℕ, cellInv ER (sched m) κ (cellAt ck.1 ck.2))),
    ← bigSep_univ_prod (fun ck : Dev nD × Kind => (reached ER (cellAt ck.1 ck.2) 0 : SP F))]
  haveI : DecidableEq (Dev nD × Kind) := Classical.decEq _
  iintro ⟨HI, #HR, Hat, Htok⟩
  ihave HK := (BI.bigSep_exists_pi Finset.univ (fun (ck : Dev nD × Kind) (κ : ℕ) => (cellInv ER (sched m) κ (cellAt ck.1 ck.2) : SP F))) $$ HI
  icases HK with ⟨%K, #HI⟩
  ihave Htk := (deal_tokens (F := F)) $$ Htok
  iapply (with_records (R := records m K) (Φ := fun c => iprop((bigSep Finset.univ fun k : Kind => atStart (F := F) c k) ∗ tokens c)) fun c => by
    unfold share; iintro H; iexists K; iexact H)
  isplitr
  · unfold records; isplitl; · iexact HI
    iexact HR
  rw [bigSep_sep']
  isplitl [Hat] <;> iassumption

theorem glob : (bigSep Finset.univ fun c => iprop(Pipeline.ownSems0 osem c ∗ unscopedSems0 c ∗ dealt m c) : SP F)
    ⊢ |={Set.univ}=> bigSep Finset.univ (share m) :=
  ((bigSep_mono fun c _ => alloc m c).trans (bigSep_fupd _ _)).trans (BI.fupd_mono (regroup m))

end Cert.KernelIdeal

end
-- ==== Proof.Run.lean ====
/- The run of `main` on the mesh, for any float values. -/
module

public import proofs.«01_k».proof.Proof.Launch
public import proofs.«01_k».proof.Proof.Gen.KernelIdeal.Points
public import proofs.«01_k».proof.Proof.Gen.KernelIdeal.Launch
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.KernelIdeal

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

attribute [local irreducible] cc0_body loopBody

/-! ## What the kernel starts from and ends with -/

/-- What a device's kernel starts from, the scoped buffers aside. -/
def start (c : Dev nD) : SP F :=
  iprop(share m c ∗ (cred (tallyAt (cellAt c kBar) () 31) ∗ bigSep (others c) fun s => credOf c (kRecv s)) ∗ levAts L lv
    ∗ wholePts c main_arg1 (wAt m c))

/-- The pipeline's data: the arrays, the blocks the kernel leaves in the windows, and what holds before and after. -/
def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => sxAt m c
    | ⟨2, _⟩ => syAt m c
    | ⟨3, _⟩ => outAt m c
  Φ t := match t with
    | ⟨0, _⟩ => iprop(start m c ∗ scratches c)
    | ⟨_ + 1, _⟩ => iprop(counters c ∗ scratches c ∗ wholePts c main_arg1 (wAt m c))
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : SP F)
      = iprop(∃ f : Buf (Elt F) ((c : Thread nD τ).loc b), ⌜f = X⌝ ∗ wholePts c b f) := by
  unfold owns; simp only [Memref.view_whole, View.read_whole, View.set_whole]

theorem before_0 (c : Dev nD) (d) : (dats m 0 c).before (0 : Fin 4) t0_0 d = xAt m c := by
  unfold Dat.before; rw [if_pos (fetch0_0 _)]; rfl
theorem before_1 (c : Dev nD) (d) : (dats m 0 c).before (1 : Fin 4) t0_0 d = sxAt m c := by
  unfold Dat.before; rw [if_pos (fetch0_1 _)]; rfl
theorem before_2 (c : Dev nD) (d) : (dats m 0 c).before (2 : Fin 4) t0_0 d = syAt m c := by
  unfold Dat.before; rw [if_pos (fetch0_2 _)]; rfl

/-- A window's staging buffer at contents `f`. -/
abbrev held (c : Dev nD) (b : Ref sig .tc) (f : Buf (Elt F) ((c : Thread nD τ).loc b)) : SP F :=
  iprop(∃ g : Buf (Elt F) ((c : Thread nD τ).loc b), ⌜g = f⌝ ∗ wholePts c b g)

def bodyAsks (c : Dev nD) : SP F :=
  iprop((start m c ∗ scratches c) ∗ (dats m 0 c).owesAt () t0_0.castSucc
    ∗ (∃ d, held c cc0_stg0_0 ((dats m 0 c).before (0 : Fin 4) t0_0 d)) ∗ (∃ d, held c cc0_stg1_0 ((dats m 0 c).before (1 : Fin 4) t0_0 d))
    ∗ (∃ d, held c cc0_stg2_0 ((dats m 0 c).before (2 : Fin 4) t0_0 d)) ∗ (∃ d, held c cc0_stg3_0 ((dats m 0 c).before (3 : Fin 4) t0_0 d)))

def bodyGives (c : Dev nD) : SP F :=
  iprop((counters c ∗ scratches c ∗ wholePts c main_arg1 (wAt m c)) ∗ (dats m 0 c).owesAt () t0_0.succ
    ∗ held c cc0_stg0_0 (xAt m c) ∗ held c cc0_stg1_0 (sxAt m c) ∗ held c cc0_stg2_0 (syAt m c) ∗ held c cc0_stg3_0 (outAt m c))

theorem asks_pre (c : Dev nD) : bodyAsks m c ⊢ iprop(∃ K, (records m K ∗ levAts L lv) ∗ bodyPre m c) := by
  unfold bodyAsks start share bodyPre ghost
  simp only [before_0, before_1, before_2]
  iintro ⟨⟨⟨⟨%K, HR, Hat, Htok⟩, ⟨Hc1, Hc2⟩, Hlev, Hh⟩, Hs⟩, HO, ⟨%d0, %f0, %e0, H0⟩, ⟨%d1, %f1, %e1, H1⟩, ⟨%d2, %f2, %e2, H2⟩, ⟨%d3, %f3, %e3, H3⟩⟩
  subst e0 e1 e2
  iexists K
  isplitl [HR Hlev]
  · isplitl [HR] <;> iassumption
  isplitl [Hat Htok Hc1 Hc2]
  · isplitl [Hat]; · iexact Hat
    isplitl [Htok]; · iexact Htok
    isplitl [Hc1] <;> iassumption
  isplitl [Hs]; · iexact Hs
  isplitl [Hh]; · iexact Hh
  isplitl [HO]
  · unfold Dat.owesAt Pipeline.owesWithin owesW
    icases HO with ⟨%W, %hW, HO⟩
    iexists W; iexact HO
  isplitl [H0]; · iexact H0
  isplitl [H1]; · iexact H1
  isplitl [H2]; · iexact H2
  iexists f3; iexact H3

theorem post_gives (c : Dev nD) : bodyPost m c ⊢ bodyGives m c := by
  unfold bodyPost bodyGives owesW
  iintro ⟨Hc, Hs, Hh, ⟨%W, HO⟩, H0, H1, H2, H3⟩
  isplitl [Hc Hs Hh]
  · isplitl [Hc]; · iexact Hc
    isplitl [Hs] <;> iassumption
  isplitl [HO]
  · unfold Dat.owesAt Pipeline.owesWithin
    iexists W
    isplitr
    · ipureintro; exact fun _ _ => Or.inl trivial
    iexact HO
  isplitl [H0]; · iexists _; isplitr; · ipureintro; rfl
                  iexact H0
  isplitl [H1]; · iexists _; isplitr; · ipureintro; rfl
                  iexact H1
  isplitl [H2]; · iexists _; isplitr; · ipureintro; rfl
                  iexact H2
  iexists _; isplitr; · ipureintro; rfl
  iexact H3

set_option maxRecDepth 8000 in
/-- The kernel meets the pipeline's obligation. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyAsks m c ⊢ runs c (cc0_body (Memref.whole cc0_stg0_0) (Memref.isWhole_whole _) (Memref.whole main_arg1) (Memref.isWhole_whole _)
    (Memref.whole cc0_stg1_0) (Memref.isWhole_whole _) (Memref.whole cc0_stg2_0) (Memref.isWhole_whole _) (Memref.whole cc0_stg3_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _)
    cc0_scratch5 cc0_scratch6 cc0_scratch7 cc0_scratch8) (bodyGives m c)
  rw [cc0_body_eq_loopBody]
  refine (asks_pre m c).trans (exists_elim fun K => (sound_body m K c).trans ?_)
  exact wp_mono _ _ _ fun _ => post_gives m c

/-! ## The launch's side conditions -/

theorem share_full (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share m c)
      ⊢ |={Set.univ}=> iprop(start m c ∗ emp) := by
  rw [Pipeline.unscopedRestP_none, unscopedRest0_eq]
  iintro ⟨Hh, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Hh
  · iempintro

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratches c) from rfl, scopedRest0_eq]
  unfold scratches
  iintro ⟨Hs, -, Hr⟩
  isplitl [Hs] <;> iassumption

/-- What outlives the kernel of a device: its counters at zero and the weights. -/
def leaves (c : Dev nD) : SP F := iprop(unscopedSems0 c ∗ wholePts c main_arg1 (wAt m c))

theorem after_exit (c : Dev nD) :
    (dats m 0 c).Φ (Fin.last cfg0.N) ⊢ iprop(leaves m c ∗ Pipeline.ownSems0 osem c ∗ Pipeline.scopedRest cfg0.spec c) := by
  rw [show (dats m 0 c).Φ (Fin.last cfg0.N) = iprop(counters c ∗ scratches c ∗ wholePts c main_arg1 (wAt m c)) from rfl, scopedRest0_eq, counters_eq]
  unfold scratches leaves
  iintro ⟨⟨Hu, Ho⟩, Hs, Hh⟩
  isplitl [Hu Hh]
  · isplitl [Hu] <;> iassumption
  isplitl [Ho] <;> iassumption

theorem waits (c : Dev nD) : (levAts L lv : SP F) ⊢ Pipeline.cellsWaits cfgs (dats m) () 0 c :=
  Pipeline.cellsWaits_intro cfgs (dats m) () 0 c fun w s t =>
    mayWait_stage c _ (staged_sem w s) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m 0 c).arrAt w cfg0.N

/-- After the run: the windows' arrays at their final contents, and the weights as they were. -/
def Ends (r : PUnit × MemSt nD τ sig (Elt F)) : Prop :=
  ∀ c : Dev nD, (∀ w : Fin cfg0.W, r.2.mem ((cfg0.win w).arr.view.loc (c : Thread nD τ)) = finalA m c w)
    ∧ r.2.mem ((c : Thread nD τ).loc main_arg1) = wAt m c

set_option maxRecDepth 8000 in
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := dealt m) (G' := share m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := leaves m) (Z := fun _ => iprop(emp))
    (hX := start_intro m ρ) (hin := before_intro m) (hout := after_exit m)
    (QY := fun c s => (∀ sm : SemLoc sig, sm.isScoped .tc = false → s.sem ((c.tc : Thread nD τ), sm) = 0)
      ∧ s.mem ((c : Thread nD τ).loc main_arg1) = wAt m c)
    (hY := fun c s' => by
      unfold leaves
      iintro ⟨⟨Hu, Hh⟩, -, HSI⟩
      ihave %hw := (SI_pointsTo_agree) $$ [HSI Hh]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hw i (Finset.mem_univ i)⟩
      iexact HSI)
    (hQ := fun _ h hs => ⟨fun c => ⟨(h c).1, (h c).2.2.2⟩, sem_eq_zero hs fun c => (h c).2.2.1⟩)

end Cert.KernelIdeal

end
-- ==== Proof.Values.lean ====
/- The values, on the extended reals: every device's block of the kernel's result is its rows of the reference's.

   A device's accumulator adds four products, one per group of eight devices, in an order of its own;
   together they are the rows of one product over all 4096 columns. -/
module

public import proofs.«01_k».proof.Proof.Contents
public import proofs.«01_k».proof.Proof.Gen.ReferenceIdeal
public import Idealize.ShloMosaic.Lib.MatmulPlain
public import Idealize.ShloMosaic.Lib.StackMember
public import Idealize.ShloMosaic.Lib.IdealHost
public import Idealize.ShloMosaic.Lib.Layout
public import Idealize.ShloMosaic.Lib.Pipeline.Value
public import Idealize.ShloMosaic.Lib.Pipeline.ValueKit.Geometry

@[expose] public section

noncomputable section

namespace Cert.KernelIdeal

open Cert.KernelIdeal.Gen
open Idealize.ShloMosaic Idealize.ShloMosaic.TcCoe Idealize.ShloMosaic.ValueIdx
open Idealize.SL Idealize.SL.Sem
open scoped BigOperators

/-- The whole `x` and the weights. -/
abbrev XS : Shape := ⟨2, ![4096, 4096]⟩
abbrev WS : Shape := ⟨2, ![4096, 2048]⟩

/-- Row `r` of device `c`'s rows, and column `k` of group `g`'s columns. -/
def rowIn (c : Dev nD) (r : Fin 128) : Fin 4096 := ⟨c.val * 128 + r.val, by have : c.val < 32 := c.isLt; omega⟩
def colIn (g : Fin 4) (k : Fin 1024) : Fin 4096 := ⟨1024 * g.val + k.val, by omega⟩

/-! ## The product, group by group -/

/-- The groups' columns are all of them. -/
theorem sum_groups (f : Fin 4096 → EReal) : ∑ k, f k = ∑ g : Fin 4, ∑ k : Fin 1024, f (colIn g k) := by
  rw [← Fintype.sum_prod_type' (f := fun g k => f (colIn g k)), ← (finProdFinEquiv (m := 4) (n := 1024)).sum_comp]
  refine Finset.sum_congr rfl fun gk _ => congrArg f (Fin.ext ?_)
  show gk.2.val + 1024 * gk.1.val = 1024 * gk.1.val + gk.2.val
  omega

/-- A device takes the groups in an order of its own. -/
theorem groupAt_injective : ∀ c : Dev nD, Function.Injective (groupAt c) := by decide +kernel
theorem sum_order (c : Dev nD) (f : Fin 4 → EReal) : ∑ a, f (groupAt c a) = ∑ g, f g :=
  (Equiv.ofBijective (groupAt c) (Finite.injective_iff_bijective.mp (groupAt_injective c))).sum_comp f

/-! ## What the buffers hold -/

variable (m : (ℓ : Loc nD τ sig) → Buf (Elt Ideal) ℓ)
variable (X : XS.Idx → Elt Ideal .f32) (W : WS.Idx → Elt Ideal .f32) (sx sy : S1.Idx → Elt Ideal .f32)

/-- The memory holds the whole arrays' parts. -/
structure Holds : Prop where
  x : ∀ c : Dev nD, m ((c : Thread nD τ).loc main_arg0) = Layout.block ⟨2, ![4096, 128]⟩ ⟨2, ![4096, 4096]⟩ 1 32 c X
  w : ∀ c : Dev nD, m ((c : Thread nD τ).loc main_arg1) = W
  sx : ∀ c : Dev nD, m ((c : Thread nD τ).loc main_arg2) = sx
  sy : ∀ c : Dev nD, m ((c : Thread nD τ).loc main_arg3) = sy

theorem xAt_apply (c : Dev nD) (i : S4096x128.Idx) : xAt m c i = m ((c : Thread nD τ).loc main_arg0) i := by
  exact congrArg (m _) (funext fun a => Fin.ext (Pipeline.Window.rect_emb_val_of_index_zero win0_0 (0 : Fin 1) a (by fin_cases a <;> decide) i))
theorem sxAt_apply (c : Dev nD) (i : S1.Idx) : sxAt m c i = m ((c : Thread nD τ).loc main_arg2) i := by
  exact congrArg (m _) (funext fun a => Fin.ext (Pipeline.Window.rect_emb_val_of_index_zero win0_1 (0 : Fin 1) a (by fin_cases a <;> decide) i))
theorem syAt_apply (c : Dev nD) (i : S1.Idx) : syAt m c i = m ((c : Thread nD τ).loc main_arg3) i := by
  exact congrArg (m _) (funext fun a => Fin.ext (Pipeline.Window.rect_emb_val_of_index_zero win0_2 (0 : Fin 1) a (by fin_cases a <;> decide) i))

theorem castAt_apply (c : Dev nD) (i : S4096x128.Idx) : castAt m c i = m ((c : Thread nD τ).loc main_arg0) i := by
  rw [← xAt_apply m c i]
  unfold castAt k0_pay1
  rw [shapeCast_self, shapeCast_self]
  rfl

variable {m X W sx sy}

/-- A device's gathered block is its rows of `x`. -/
theorem gathAt_apply (h : Holds m X W sx sy) (c : Dev nD) (r : Fin 128) (k : Fin 4096) : gathAt m c (ix2 r k) = X (ix2 (rowIn c r) k) := by
  unfold gathAt
  rw [castAt_apply, h.x]
  refine congrArg X (funext fun a => Fin.ext ?_)
  fin_cases a
  · show 128 * c.val + r.val = c.val * 128 + r.val; omega
  · show k.val / 128 * 128 + k.val % 128 = k.val; omega

/-- The cast weights are the weights. -/
theorem wcastAt_apply (h : Holds m X W sx sy) (c : Dev nD) (i : S4096x2048.Idx) : wcastAt m c i = W i := by
  unfold wcastAt k0_pay4
  rw [shapeCast_self]
  show chunkAt m c (chunkOf i) (inChunk i) = W i
  unfold chunkAt wAt
  rw [h.w]
  refine congrArg W (funext fun a => Fin.ext ?_)
  have h0 : (i 0).val < 4096 := (i 0).isLt
  fin_cases a
  · show chunkRow (chunkOf i) + 1 * ((i 0).val % 1024) = (i 0).val
    have hr := chunkRow_eq (chunkOf i)
    have hk : (chunkOf i).val = (i 0).val / 1024 := rfl
    omega
  · show 0 + 1 * (i 1).val = (i 1).val; omega

theorem gLoad_apply (h : Holds m X W sx sy) (c : Dev nD) (a : Fin 4) (r : Fin 128) (k : Fin 1024) :
    gLoad m c a (ix2 r k) = X (ix2 (rowIn c r) (colIn (groupAt c a) k)) := by
  rw [← gathAt_apply h]
  refine congrArg (gathAt m c) (funext fun b => Fin.ext ?_)
  have e := off7_eq c a
  fin_cases b
  · show k0_off7 c (BitVec.ofNat 32 a.val) 0 + 1 * r.val = r.val
    rw [e]; show 0 + 1 * r.val = r.val; omega
  · show k0_off7 c (BitVec.ofNat 32 a.val) 1 + 1 * k.val = 1024 * (groupAt c a).val + k.val
    rw [e]; show 1024 * (groupAt c a).val + 1 * k.val = _; omega

theorem wLoad_apply (h : Holds m X W sx sy) (c : Dev nD) (a : Fin 4) (k : Fin 1024) (n : Fin 2048) :
    wLoad m c a (ix2 k n) = W (ix2 (colIn (groupAt c a) k) n) := by
  rw [← wcastAt_apply h c]
  refine congrArg (wcastAt m c) (funext fun b => Fin.ext ?_)
  have e := off8_eq c a
  fin_cases b
  · show k0_off8 c (BitVec.ofNat 32 a.val) 0 + 1 * k.val = 1024 * (groupAt c a).val + k.val
    rw [e]; show 1024 * (groupAt c a).val + 1 * k.val = _; omega
  · show k0_off8 c (BitVec.ofNat 32 a.val) 1 + 1 * n.val = n.val
    rw [e]; show 0 + 1 * n.val = n.val; omega

/-! ## The accumulator -/

/-- An element of the accumulator. -/
abbrev accEl (m : (ℓ : Loc nD τ sig) → Buf (Elt Ideal) ℓ) (c : Dev nD) (a : ℕ) (r : Fin 128) (n : Fin 2048) : EReal := accAt m c a (ix2 r n)

theorem acc_zero (c : Dev nD) (r : Fin 128) (n : Fin 2048) : accEl m c 0 r n = (0 : EReal) := by
  show k0_pay9 (F := Ideal) (ix2 r n) = (0 : EReal)
  unfold k0_pay9
  rw [shapeCast_self]
  exact Ideal.ofBits_zero_f32

theorem acc_step (h : Holds m X W sx sy) (c : Dev nD) (a : Fin 4) (r : Fin 128) (n : Fin 2048) :
    accEl m c (a.val + 1) r n
      = (accEl m c a.val r n + ∑ k : Fin 1024, (X (ix2 (rowIn c r) (colIn (groupAt c a) k)) * W (ix2 (colIn (groupAt c a) k) n) : EReal) : EReal) := by
  unfold accEl
  rw [accAt_succ]
  unfold k0_pay10
  rw [shapeCast_self]
  refine congrArg (accEl m c a.val r n + · : EReal → EReal) ?_
  rw [show dot_S128x1024_S1024x2048_S128x2048_1_0_0_1_n_n = DotDims.plain 128 1024 2048 from rfl]
  refine (Ideal.matmul_plain_apply none _ _ _ r n).trans ?_
  rw [show (constant (F := Ideal) S128x2048 .f32 0x00000000#32) (ix2 r n) = (0 : EReal) from Ideal.ofBits_zero_f32, zero_add]
  exact Finset.sum_congr rfl fun k _ => by rw [gLoad_apply h, wLoad_apply h]

/-- After the four phases it holds the device's rows of the product. -/
theorem acc_all (h : Holds m X W sx sy) (c : Dev nD) (r : Fin 128) (n : Fin 2048) :
    accEl m c 4 r n = (∑ k : Fin 4096, (X (ix2 (rowIn c r) k) * W (ix2 k n) : EReal) : EReal) := by
  rw [sum_groups, ← sum_order c, Fin.sum_univ_four]
  have e := acc_step h c
  exact ((e 3 r n).trans (congrArg (· + _) ((e 2 r n).trans (congrArg (· + _) ((e 1 r n).trans (congrArg (· + _)
    ((e 0 r n).trans ((congrArg (· + _) (acc_zero c r n)).trans (zero_add _)))))))))

/-! ## The result -/

/-- `y · logistic y` is `y / (1 + e⁻ʸ)`. -/
theorem silu (y : EReal) : y * Ideal.logistic y = Ideal.div y (1 + Ideal.exp (-y)) := by
  unfold Ideal.logistic
  refine Ideal.mul_one_div ?_
  have h := Ideal.one_add_sum_ne_zero {()} (fun _ => Ideal.exp (-y)) fun _ _ => by
    generalize -y = z
    induction z with
    | bot => exact le_refl _
    | top => exact le_top
    | coe r => exact EReal.coe_nonneg.mpr (Real.exp_pos r).le
  simpa using h

/-- The result at row `R`, column `n` of the whole. -/
def siluAt (X : XS.Idx → EReal) (W : WS.Idx → EReal) (sx sy : S1.Idx → EReal) (R : Fin 4096) (n : Fin 2048) : EReal :=
  let y := (∑ k : Fin 4096, X (ix2 R k) * W (ix2 k n)) * (sx (ix1 0) * sy (ix1 0))
  Ideal.div y (1 + Ideal.exp (-y))

theorem one_element (i j : S1.Idx) : i = j :=
  (eq_ix1 i).trans ((congrArg ix1 (Subsingleton.elim (α := Fin 1) (i 0) (j 0))).trans (eq_ix1 j).symm)

theorem sxVal_eq (h : Holds m X W sx sy) (c : Dev nD) : sxVal m c = sx (ix1 0) := by
  unfold sxVal
  rw [← h.sx c, ← sxAt_apply m c (ix1 0)]
  exact congrArg (sxAt m c) (one_element _ _)
theorem syVal_eq (h : Holds m X W sx sy) (c : Dev nD) : syVal m c = sy (ix1 0) := by
  unfold syVal
  rw [← h.sy c, ← syAt_apply m c (ix1 0)]
  exact congrArg (syAt m c) (one_element _ _)

theorem outAt_apply (h : Holds m X W sx sy) (c : Dev nD) (r : Fin 128) (n : Fin 2048) :
    outAt m c (ix2 r n) = siluAt X W sx sy (rowIn c r) n := by
  unfold outAt k0_pay15 k0_pay8
  rw [sxVal_eq h, syVal_eq h]
  show ((accEl m c 4 r n * (sx (ix1 0) * sy (ix1 0))) * Ideal.logistic (accEl m c 4 r n * (sx (ix1 0) * sy (ix1 0))) : EReal) = _
  rw [silu, acc_all h]
  rfl

/-! ## The reference -/

/-- The reference's result, from its four arrays. -/
def whole (X : XS.Idx → Elt Ideal .f32) (W : WS.Idx → Elt Ideal .f32) (sx sy : S1.Idx → Elt Ideal .f32) : FVec Ideal WS .f32 :=
  fun i => siluAt X W sx sy (i 0) (i 1)

open Cert.ReferenceIdeal (dot_S4096x4096_S4096x2048_S4096x2048_1_0_0_1_n_n) in
open Cert.ReferenceIdeal.Facts₀ in
theorem reference_eq (X : FVec Ideal XS .f32) (W : FVec Ideal WS .f32) (sx sy : FVec Ideal S1 .f32) (y : FVec Ideal WS .f32)
    (hy : y = mulf (Host.dotGeneral dot_S4096x4096_S4096x2048_S4096x2048_1_0_0_1_n_n none X W)
      (broadcastInDim WS ![0, 1] bcast_S1x1_S4096x2048_0_1 (broadcastInDim Cert.ReferenceIdeal.S1x1 ![1] bcast_S1_S1x1_1 (mulf sx sy)))) :
    Host.divf y (addf (broadcastInDim WS ![] bcast_S_S4096x2048 (constant (F := Ideal) Cert.ReferenceIdeal.S_ .f32 0x3F800000#32)) (Host.exp (Host.negf y)))
      = whole X W sx sy := by
  funext i
  obtain ⟨R, n, rfl⟩ : ∃ (R : Fin 4096) (n : Fin 2048), i = ix2 R n := ⟨i 0, i 1, eq_ix2 i⟩
  have e : y (ix2 R n) = ((∑ k : Fin 4096, X (ix2 R k) * W (ix2 k n)) * (sx (ix1 0) * sy (ix1 0)) : EReal) := by
    subst hy
    refine congrArg₂ (· * · : EReal → EReal → EReal) ?_ (congrArg (mulf sx sy) (one_element _ _))
    rw [show dot_S4096x4096_S4096x2048_S4096x2048_1_0_0_1_n_n = DotDims.plain 4096 4096 2048 from rfl]
    exact StackMember.dotGeneral_plain_apply none X W R n
  show Ideal.div (y (ix2 R n)) (Ideal.ofBits .f32 0x3F800000#32 + Ideal.exp (-(y (ix2 R n) : EReal))) = siluAt X W sx sy R n
  rw [Ideal.ofBits_one_f32, e]
  rfl

end Cert.KernelIdeal

end
-- ==== Proof.Result.lean ====
/- What the run leaves in each array, read back: the result's rows, and the arguments as they were. -/
module

public import proofs.«01_k».proof.Proof.Run
public import proofs.«01_k».proof.Proof.Values

@[expose] public section

noncomputable section

namespace Cert.KernelIdeal

open Cert.KernelIdeal.Gen
open Idealize.ShloMosaic Idealize.ShloMosaic.TcCoe Idealize.ShloMosaic.ValueIdx
open Idealize.SL Idealize.SL.Sem

section Arguments

variable {F : FTy → Type} [FloatOps F] (m : (ℓ : Loc nD τ sig) → Buf (Elt F) ℓ) {r : PUnit × MemSt nD τ sig (Elt F)}

/-- The arguments after the run. -/
theorem args_kept (h : Ends m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨((h c).1 (0 : Fin 4)).trans ((dats m 0 c).arrAt_in (0 : Fin 4) rfl _), (h c).2,
    ((h c).1 (1 : Fin 4)).trans ((dats m 0 c).arrAt_in (1 : Fin 4) rfl _),
    ((h c).1 (2 : Fin 4)).trans ((dats m 0 c).arrAt_in (2 : Fin 4) rfl _)⟩

/-- The result after the run. -/
theorem result_left (h : Ends m r) (c : Dev nD) : r.2.mem ((c : Thread nD τ).loc main_v1) = outAt m c := by
  refine ((h c).1 (3 : Fin 4)).trans ?_
  refine (dats m 0 c).arrAt_eq_of_after_last (3 : Fin 4) t0_0 (by decide +kernel) (outAt m c) fun j => ?_
  rfl

end Arguments

/-- On memories holding the whole arrays' parts the result is the device's rows of the reference's. -/
theorem result_rows {m : (ℓ : Loc nD τ sig) → Buf (Elt Ideal) ℓ} {X : XS.Idx → Elt Ideal .f32} {W : WS.Idx → Elt Ideal .f32}
    {sx sy : S1.Idx → Elt Ideal .f32} (h : Holds m X W sx sy) (c : Dev nD) :
    outAt m c = Layout.block ⟨2, ![128, 2048]⟩ ⟨2, ![4096, 2048]⟩ 0 32 c (whole X W sx sy) := by
  funext i
  obtain ⟨r, n, rfl⟩ : ∃ (r : Fin 128) (n : Fin 2048), i = ix2 r n := ⟨i 0, i 1, eq_ix2 i⟩
  exact outAt_apply h c r n

end Cert.KernelIdeal

end
-- ==== Proof.Text.lean ====
/- The kernel read for machine floats has the idealized kernel's own text. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

set_option maxHeartbeats 4000000 in
set_option maxRecDepth 20000 in
/-- The two kernels' bodies are one text. -/
theorem body_same : @Cert.Kernel.cc0_body F _ _ = @Cert.KernelIdeal.cc0_body F _ _ := rfl

/-- So their label calls the same program with the same windows. -/
theorem defs₀_same : Cert.Kernel.defs₀ (F := F) = Cert.KernelIdeal.defs₀ := by
  unfold Cert.Kernel.defs₀ Cert.KernelIdeal.defs₀
  refine congrArg Defs.onTc ?_
  funext l a
  match l, a with
  | 0, (t, s) =>
    dsimp only
    rw [body_same (F := F)]
  | ⟨_ + 1, h⟩, _ => exact absurd h (Nat.not_lt.2 (Nat.le_add_left _ _))

/-- And the pipelines built on them are the same. -/
theorem defs_same : Cert.Kernel.defs (F := F) = Cert.KernelIdeal.defs (F := F) :=
  congrArg (Pipeline.defs (Cert.KernelIdeal.pcfgs (F := F))) (defs₀_same (F := F))

/-- The two `main`s launch the same call. -/
theorem main_same : Cert.Kernel.main (F := F) = Cert.KernelIdeal.main (F := F) := rfl

end Cert.Proof

end
-- ==== Proof.lean ====
/- The kernel's run, read in the two ways it is printed, and the reference's run, put together into the certificate:
   each program ends with its arguments kept and its semaphores at zero, and at the ideal floats each device's
   result is its rows of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Result
public import proofs.«01_k».proof.Proof.Text
public import Idealize.ShloMosaic.Adequacy
public import Idealize.ShloMosaic.Init

@[expose] public section

noncomputable section

namespace Cert.Proof

open Idealize.ShloMosaic Idealize.SL.Sem

/-- The kernel at machine floats ends without fault, keeps its arguments and leaves every semaphore at zero: its text is
the idealized kernel's, whose run is proved for any floats. -/
theorem frame_kernel : Cert.quiescent_Kernel := fun m ρ _ => by
  have h := Cert.KernelIdeal.run_main (F := Bits) m ρ
  rw [← defs_same, ← main_same] at h
  exact (θ_run Cert.Kernel.defs _ _).mono (fun _ h => ⟨Cert.KernelIdeal.args_kept m h.1, h.2⟩) h

/-- The idealized kernel does the same over the extended reals. -/
theorem frame_kernelIdeal : Cert.quiescent_KernelIdeal := fun m ρ _ =>
  (θ_run Cert.KernelIdeal.defs _ _).mono (fun _ h => ⟨Cert.KernelIdeal.args_kept m h.1, h.2⟩) (Cert.KernelIdeal.run_main (F := Ideal) m ρ)

/-- The reference keeps its arguments, and has no semaphores. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Over the extended reals each device's result is its block of rows of the reference's: of the whole product, scaled and
passed through silu. -/
theorem value : Cert.algebraic_KernelIdeal_ReferenceIdeal := fun m ρ m' ρ' _ hm => by
  have h : Cert.KernelIdeal.Holds m _ _ _ _ := ⟨fun c => (hm c).1, fun c => (hm c).2.1, fun c => (hm c).2.2.1, fun c => (hm c).2.2.2⟩
  refine ⟨_, (θ_run Cert.KernelIdeal.defs _ _).mono (fun r hr c => ⟨(Cert.KernelIdeal.result_left m hr.1 c).trans (Cert.KernelIdeal.result_rows h c),
      Cert.KernelIdeal.args_kept m hr.1 c⟩) (Cert.KernelIdeal.run_main (F := Ideal) m ρ),
    (θ_run Cert.ReferenceIdeal.defs _ _).mono (fun r hr => ⟨(hr 0).1.trans (Cert.KernelIdeal.reference_eq _ _ _ _ _ rfl), (hr 0).2⟩)
      (Cert.ReferenceIdeal.Value.run (F := Ideal) m' ρ')⟩

/-- All five claims together. -/
theorem claim : Cert.Claim := ⟨Cert.Kernel.Gen.facts, Cert.KernelIdeal.Gen.facts, Cert.ReferenceIdeal.Gen.facts,
  frame_kernel, frame_kernelIdeal, frame_reference, trivial, value⟩

end Cert.Proof

end
